-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 512]⟩ ⟨3, ![4, 2048, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![2048, 512]⟩ (Layout.meshBlock [2, 4, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x512 : Shape := ⟨3, ![1, 2048, 512]⟩
abbrev S512 : Shape := ⟨1, ![512]⟩
abbrev S512x512 : Shape := ⟨2, ![512, 512]⟩
abbrev S4x64x512 : Shape := ⟨3, ![4, 64, 512]⟩
abbrev S3x64x512 : Shape := ⟨3, ![3, 64, 512]⟩
abbrev S8x64x512 : Shape := ⟨3, ![8, 64, 512]⟩
abbrev S4 : Shape := ⟨1, ![4]⟩
abbrev S3 : Shape := ⟨1, ![3]⟩
abbrev S8 : Shape := ⟨1, ![8]⟩
abbrev S_ : Shape := ⟨0, ![]⟩
abbrev S1 : Shape := ⟨1, ![1]⟩
abbrev S1x64x512 : Shape := ⟨3, ![1, 64, 512]⟩
abbrev S64x512 : Shape := ⟨2, ![64, 512]⟩
abbrev S64 : Shape := ⟨1, ![64]⟩
abbrev S64x1 : Shape := ⟨2, ![64, 1]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S1x2048x512, .f32⟩
  | .hbm, ⟨1, _⟩ => ⟨S512, .f32⟩
  | .hbm, ⟨2, _⟩ => ⟨S512x512, .f32⟩
  | .local _ .vmem, ⟨0, _⟩ => ⟨S512, .f32⟩
  | .local _ .vmem, ⟨1, _⟩ => ⟨S512x512, .f32⟩
  | .local _ .vmem, ⟨2, _⟩ => ⟨S4x64x512, .f32⟩
  | .local _ .vmem, ⟨3, _⟩ => ⟨S3x64x512, .bf16⟩
  | .local _ .vmem, ⟨4, _⟩ => ⟨S3x64x512, .bf16⟩
  | .local _ .vmem, ⟨5, _⟩ => ⟨S8x64x512, .bf16⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 2 28 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 1

abbrev nD : Nat := 32
abbrev τ : Topo := Topo.v7x

variable {F : FTy → Type} [FloatOps F]

abbrev grid0 : Pipeline.Grid := .none

def k0_off1 (d0 : Dev nD) (c0_i32 : BitVec 32) : Fin 3 → Nat :=
  let c0_i32_9 : BitVec 32 := 0#32
  let c512_i32 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v11 : BitVec 32 := Scalar.addi v5 c0_i32
  let c4_i32_3 : BitVec 32 := 4#32
  let c0_i32_4 : BitVec 32 := 0#32
  let v12 : BitVec 1 := Scalar.cmpi .eq c4_i32_3 c0_i32_4
  let c1_i32_5 : BitVec 32 := 1#32
  let v13 : BitVec 32 := Scalar.select v12 c1_i32_5 c4_i32_3
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let v22 : BitVec 32 := Scalar.muli c512_i32 v21
  let c64_i32 : BitVec 32 := 64#32
  let c4_i32_2 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.muli c4_i32_2 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v23 : BitVec 32 := Scalar.muli c64_i32 v10
  let v24 : BitVec 32 := Scalar.addi v22 v23
  let c0_i32_14 : BitVec 32 := 0#32
  ![0, v24.toNat, 0]
def k0_dev1 (d0 : Dev nD) : Nat :=
  let c0_i32_68 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_67 : BitVec 32 := 16#32
  let v103 : BitVec 32 := Scalar.muli v2 c16_i32_67
  let v104 : BitVec 32 := Scalar.addi c0_i32_68 v103
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_59 : BitVec 32 := 1#32
  let v92 : BitVec 32 := Scalar.addi v5 c1_i32_59
  let c4_i32_60 : BitVec 32 := 4#32
  let c0_i32_61 : BitVec 32 := 0#32
  let v93 : BitVec 1 := Scalar.cmpi .eq c4_i32_60 c0_i32_61
  let c1_i32_62 : BitVec 32 := 1#32
  let v94 : BitVec 32 := Scalar.select v93 c1_i32_62 c4_i32_60
  let v95 : BitVec 32 := Scalar.remsi v92 v94
  let c0_i32_64 : BitVec 32 := 0#32
  let v97 : BitVec 1 := Scalar.cmpi .slt v95 c0_i32_64
  let c0_i32_65 : BitVec 32 := 0#32
  let v98 : BitVec 1 := Scalar.cmpi .slt v94 c0_i32_65
  let v99 : BitVec 1 := Scalar.xori v97 v98
  let c0_i32_63 : BitVec 32 := 0#32
  let v96 : BitVec 1 := Scalar.cmpi .ne v95 c0_i32_63
  let v100 : BitVec 1 := Scalar.andi v99 v96
  let v101 : BitVec 32 := Scalar.addi v95 v94
  let v102 : BitVec 32 := Scalar.select v100 v101 v95
  let c4_i32_69 : BitVec 32 := 4#32
  let v105 : BitVec 32 := Scalar.muli v102 c4_i32_69
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v107 : BitVec 32 := Scalar.muli v8 c1_i32_70
  let v108 : BitVec 32 := Scalar.addi v106 v107
  v108.toNat
def k0_dev2 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v120 : BitVec 32 := Scalar.muli v2 c16_i32_79
  let v121 : BitVec 32 := Scalar.addi c0_i32_80 v120
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_71 : BitVec 32 := 2#32
  let v109 : BitVec 32 := Scalar.addi v5 c2_i32_71
  let c4_i32_72 : BitVec 32 := 4#32
  let c0_i32_73 : BitVec 32 := 0#32
  let v110 : BitVec 1 := Scalar.cmpi .eq c4_i32_72 c0_i32_73
  let c1_i32_74 : BitVec 32 := 1#32
  let v111 : BitVec 32 := Scalar.select v110 c1_i32_74 c4_i32_72
  let v112 : BitVec 32 := Scalar.remsi v109 v111
  let c0_i32_76 : BitVec 32 := 0#32
  let v114 : BitVec 1 := Scalar.cmpi .slt v112 c0_i32_76
  let c0_i32_77 : BitVec 32 := 0#32
  let v115 : BitVec 1 := Scalar.cmpi .slt v111 c0_i32_77
  let v116 : BitVec 1 := Scalar.xori v114 v115
  let c0_i32_75 : BitVec 32 := 0#32
  let v113 : BitVec 1 := Scalar.cmpi .ne v112 c0_i32_75
  let v117 : BitVec 1 := Scalar.andi v116 v113
  let v118 : BitVec 32 := Scalar.addi v112 v111
  let v119 : BitVec 32 := Scalar.select v117 v118 v112
  let c4_i32_81 : BitVec 32 := 4#32
  let v122 : BitVec 32 := Scalar.muli v119 c4_i32_81
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v124 : BitVec 32 := Scalar.muli v8 c1_i32_82
  let v125 : BitVec 32 := Scalar.addi v123 v124
  v125.toNat
def k0_dev3 (d0 : Dev nD) : Nat :=
  let c0_i32_92 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_91 : BitVec 32 := 16#32
  let v137 : BitVec 32 := Scalar.muli v2 c16_i32_91
  let v138 : BitVec 32 := Scalar.addi c0_i32_92 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_83 : BitVec 32 := 3#32
  let v126 : BitVec 32 := Scalar.addi v5 c3_i32_83
  let c4_i32_84 : BitVec 32 := 4#32
  let c0_i32_85 : BitVec 32 := 0#32
  let v127 : BitVec 1 := Scalar.cmpi .eq c4_i32_84 c0_i32_85
  let c1_i32_86 : BitVec 32 := 1#32
  let v128 : BitVec 32 := Scalar.select v127 c1_i32_86 c4_i32_84
  let v129 : BitVec 32 := Scalar.remsi v126 v128
  let c0_i32_88 : BitVec 32 := 0#32
  let v131 : BitVec 1 := Scalar.cmpi .slt v129 c0_i32_88
  let c0_i32_89 : BitVec 32 := 0#32
  let v132 : BitVec 1 := Scalar.cmpi .slt v128 c0_i32_89
  let v133 : BitVec 1 := Scalar.xori v131 v132
  let c0_i32_87 : BitVec 32 := 0#32
  let v130 : BitVec 1 := Scalar.cmpi .ne v129 c0_i32_87
  let v134 : BitVec 1 := Scalar.andi v133 v130
  let v135 : BitVec 32 := Scalar.addi v129 v128
  let v136 : BitVec 32 := Scalar.select v134 v135 v129
  let c4_i32_93 : BitVec 32 := 4#32
  let v139 : BitVec 32 := Scalar.muli v136 c4_i32_93
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v141 : BitVec 32 := Scalar.muli v8 c1_i32_94
  let v142 : BitVec 32 := Scalar.addi v140 v141
  v142.toNat
def k0_dev4 (d0 : Dev nD) : Nat :=
  let c0_i32_111 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_95 : BitVec 32 := 0#32
  let v143 : BitVec 32 := Scalar.addi v2 c0_i32_95
  let c2_i32_96 : BitVec 32 := 2#32
  let c0_i32_97 : BitVec 32 := 0#32
  let v144 : BitVec 1 := Scalar.cmpi .eq c2_i32_96 c0_i32_97
  let c1_i32_98 : BitVec 32 := 1#32
  let v145 : BitVec 32 := Scalar.select v144 c1_i32_98 c2_i32_96
  let v146 : BitVec 32 := Scalar.remsi v143 v145
  let c0_i32_100 : BitVec 32 := 0#32
  let v148 : BitVec 1 := Scalar.cmpi .slt v146 c0_i32_100
  let c0_i32_101 : BitVec 32 := 0#32
  let v149 : BitVec 1 := Scalar.cmpi .slt v145 c0_i32_101
  let v150 : BitVec 1 := Scalar.xori v148 v149
  let c0_i32_99 : BitVec 32 := 0#32
  let v147 : BitVec 1 := Scalar.cmpi .ne v146 c0_i32_99
  let v151 : BitVec 1 := Scalar.andi v150 v147
  let v152 : BitVec 32 := Scalar.addi v146 v145
  let v153 : BitVec 32 := Scalar.select v151 v152 v146
  let c16_i32_110 : BitVec 32 := 16#32
  let v165 : BitVec 32 := Scalar.muli v153 c16_i32_110
  let v166 : BitVec 32 := Scalar.addi c0_i32_111 v165
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_112 : BitVec 32 := 4#32
  let v167 : BitVec 32 := Scalar.muli v5 c4_i32_112
  let v168 : BitVec 32 := Scalar.addi v166 v167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v154 : BitVec 32 := Scalar.addi v8 c1_i32_102
  let c4_i32_103 : BitVec 32 := 4#32
  let c0_i32_104 : BitVec 32 := 0#32
  let v155 : BitVec 1 := Scalar.cmpi .eq c4_i32_103 c0_i32_104
  let c1_i32_105 : BitVec 32 := 1#32
  let v156 : BitVec 32 := Scalar.select v155 c1_i32_105 c4_i32_103
  let v157 : BitVec 32 := Scalar.remsi v154 v156
  let c0_i32_107 : BitVec 32 := 0#32
  let v159 : BitVec 1 := Scalar.cmpi .slt v157 c0_i32_107
  let c0_i32_108 : BitVec 32 := 0#32
  let v160 : BitVec 1 := Scalar.cmpi .slt v156 c0_i32_108
  let v161 : BitVec 1 := Scalar.xori v159 v160
  let c0_i32_106 : BitVec 32 := 0#32
  let v158 : BitVec 1 := Scalar.cmpi .ne v157 c0_i32_106
  let v162 : BitVec 1 := Scalar.andi v161 v158
  let v163 : BitVec 32 := Scalar.addi v157 v156
  let v164 : BitVec 32 := Scalar.select v162 v163 v157
  let c1_i32_113 : BitVec 32 := 1#32
  let v169 : BitVec 32 := Scalar.muli v164 c1_i32_113
  let v170 : BitVec 32 := Scalar.addi v168 v169
  v170.toNat
def k0_dev5 (d0 : Dev nD) : Nat :=
  let c0_i32_130 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_114 : BitVec 32 := 0#32
  let v171 : BitVec 32 := Scalar.addi v2 c0_i32_114
  let c2_i32_115 : BitVec 32 := 2#32
  let c0_i32_116 : BitVec 32 := 0#32
  let v172 : BitVec 1 := Scalar.cmpi .eq c2_i32_115 c0_i32_116
  let c1_i32_117 : BitVec 32 := 1#32
  let v173 : BitVec 32 := Scalar.select v172 c1_i32_117 c2_i32_115
  let v174 : BitVec 32 := Scalar.remsi v171 v173
  let c0_i32_119 : BitVec 32 := 0#32
  let v176 : BitVec 1 := Scalar.cmpi .slt v174 c0_i32_119
  let c0_i32_120 : BitVec 32 := 0#32
  let v177 : BitVec 1 := Scalar.cmpi .slt v173 c0_i32_120
  let v178 : BitVec 1 := Scalar.xori v176 v177
  let c0_i32_118 : BitVec 32 := 0#32
  let v175 : BitVec 1 := Scalar.cmpi .ne v174 c0_i32_118
  let v179 : BitVec 1 := Scalar.andi v178 v175
  let v180 : BitVec 32 := Scalar.addi v174 v173
  let v181 : BitVec 32 := Scalar.select v179 v180 v174
  let c16_i32_129 : BitVec 32 := 16#32
  let v193 : BitVec 32 := Scalar.muli v181 c16_i32_129
  let v194 : BitVec 32 := Scalar.addi c0_i32_130 v193
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_131 : BitVec 32 := 4#32
  let v195 : BitVec 32 := Scalar.muli v5 c4_i32_131
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_121 : BitVec 32 := 3#32
  let v182 : BitVec 32 := Scalar.addi v8 c3_i32_121
  let c4_i32_122 : BitVec 32 := 4#32
  let c0_i32_123 : BitVec 32 := 0#32
  let v183 : BitVec 1 := Scalar.cmpi .eq c4_i32_122 c0_i32_123
  let c1_i32_124 : BitVec 32 := 1#32
  let v184 : BitVec 32 := Scalar.select v183 c1_i32_124 c4_i32_122
  let v185 : BitVec 32 := Scalar.remsi v182 v184
  let c0_i32_126 : BitVec 32 := 0#32
  let v187 : BitVec 1 := Scalar.cmpi .slt v185 c0_i32_126
  let c0_i32_127 : BitVec 32 := 0#32
  let v188 : BitVec 1 := Scalar.cmpi .slt v184 c0_i32_127
  let v189 : BitVec 1 := Scalar.xori v187 v188
  let c0_i32_125 : BitVec 32 := 0#32
  let v186 : BitVec 1 := Scalar.cmpi .ne v185 c0_i32_125
  let v190 : BitVec 1 := Scalar.andi v189 v186
  let v191 : BitVec 32 := Scalar.addi v185 v184
  let v192 : BitVec 32 := Scalar.select v190 v191 v185
  let c1_i32_132 : BitVec 32 := 1#32
  let v197 : BitVec 32 := Scalar.muli v192 c1_i32_132
  let v198 : BitVec 32 := Scalar.addi v196 v197
  v198.toNat
def k0_dev6 (d0 : Dev nD) : Nat :=
  let c0_i32_149 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_133 : BitVec 32 := 1#32
  let v199 : BitVec 32 := Scalar.addi v2 c1_i32_133
  let c2_i32_134 : BitVec 32 := 2#32
  let c0_i32_135 : BitVec 32 := 0#32
  let v200 : BitVec 1 := Scalar.cmpi .eq c2_i32_134 c0_i32_135
  let c1_i32_136 : BitVec 32 := 1#32
  let v201 : BitVec 32 := Scalar.select v200 c1_i32_136 c2_i32_134
  let v202 : BitVec 32 := Scalar.remsi v199 v201
  let c0_i32_138 : BitVec 32 := 0#32
  let v204 : BitVec 1 := Scalar.cmpi .slt v202 c0_i32_138
  let c0_i32_139 : BitVec 32 := 0#32
  let v205 : BitVec 1 := Scalar.cmpi .slt v201 c0_i32_139
  let v206 : BitVec 1 := Scalar.xori v204 v205
  let c0_i32_137 : BitVec 32 := 0#32
  let v203 : BitVec 1 := Scalar.cmpi .ne v202 c0_i32_137
  let v207 : BitVec 1 := Scalar.andi v206 v203
  let v208 : BitVec 32 := Scalar.addi v202 v201
  let v209 : BitVec 32 := Scalar.select v207 v208 v202
  let c16_i32_148 : BitVec 32 := 16#32
  let v221 : BitVec 32 := Scalar.muli v209 c16_i32_148
  let v222 : BitVec 32 := Scalar.addi c0_i32_149 v221
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_150 : BitVec 32 := 4#32
  let v223 : BitVec 32 := Scalar.muli v5 c4_i32_150
  let v224 : BitVec 32 := Scalar.addi v222 v223
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_140 : BitVec 32 := 0#32
  let v210 : BitVec 32 := Scalar.addi v8 c0_i32_140
  let c4_i32_141 : BitVec 32 := 4#32
  let c0_i32_142 : BitVec 32 := 0#32
  let v211 : BitVec 1 := Scalar.cmpi .eq c4_i32_141 c0_i32_142
  let c1_i32_143 : BitVec 32 := 1#32
  let v212 : BitVec 32 := Scalar.select v211 c1_i32_143 c4_i32_141
  let v213 : BitVec 32 := Scalar.remsi v210 v212
  let c0_i32_145 : BitVec 32 := 0#32
  let v215 : BitVec 1 := Scalar.cmpi .slt v213 c0_i32_145
  let c0_i32_146 : BitVec 32 := 0#32
  let v216 : BitVec 1 := Scalar.cmpi .slt v212 c0_i32_146
  let v217 : BitVec 1 := Scalar.xori v215 v216
  let c0_i32_144 : BitVec 32 := 0#32
  let v214 : BitVec 1 := Scalar.cmpi .ne v213 c0_i32_144
  let v218 : BitVec 1 := Scalar.andi v217 v214
  let v219 : BitVec 32 := Scalar.addi v213 v212
  let v220 : BitVec 32 := Scalar.select v218 v219 v213
  let c1_i32_151 : BitVec 32 := 1#32
  let v225 : BitVec 32 := Scalar.muli v220 c1_i32_151
  let v226 : BitVec 32 := Scalar.addi v224 v225
  v226.toNat
def k0_dev7 (d0 : Dev nD) : Nat :=
  let c0_i32_168 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_152 : BitVec 32 := 0#32
  let v227 : BitVec 32 := Scalar.addi v2 c0_i32_152
  let c2_i32_153 : BitVec 32 := 2#32
  let c0_i32_154 : BitVec 32 := 0#32
  let v228 : BitVec 1 := Scalar.cmpi .eq c2_i32_153 c0_i32_154
  let c1_i32_155 : BitVec 32 := 1#32
  let v229 : BitVec 32 := Scalar.select v228 c1_i32_155 c2_i32_153
  let v230 : BitVec 32 := Scalar.remsi v227 v229
  let c0_i32_157 : BitVec 32 := 0#32
  let v232 : BitVec 1 := Scalar.cmpi .slt v230 c0_i32_157
  let c0_i32_158 : BitVec 32 := 0#32
  let v233 : BitVec 1 := Scalar.cmpi .slt v229 c0_i32_158
  let v234 : BitVec 1 := Scalar.xori v232 v233
  let c0_i32_156 : BitVec 32 := 0#32
  let v231 : BitVec 1 := Scalar.cmpi .ne v230 c0_i32_156
  let v235 : BitVec 1 := Scalar.andi v234 v231
  let v236 : BitVec 32 := Scalar.addi v230 v229
  let v237 : BitVec 32 := Scalar.select v235 v236 v230
  let c16_i32_167 : BitVec 32 := 16#32
  let v249 : BitVec 32 := Scalar.muli v237 c16_i32_167
  let v250 : BitVec 32 := Scalar.addi c0_i32_168 v249
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_169 : BitVec 32 := 4#32
  let v251 : BitVec 32 := Scalar.muli v5 c4_i32_169
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_159 : BitVec 32 := 2#32
  let v238 : BitVec 32 := Scalar.addi v8 c2_i32_159
  let c4_i32_160 : BitVec 32 := 4#32
  let c0_i32_161 : BitVec 32 := 0#32
  let v239 : BitVec 1 := Scalar.cmpi .eq c4_i32_160 c0_i32_161
  let c1_i32_162 : BitVec 32 := 1#32
  let v240 : BitVec 32 := Scalar.select v239 c1_i32_162 c4_i32_160
  let v241 : BitVec 32 := Scalar.remsi v238 v240
  let c0_i32_164 : BitVec 32 := 0#32
  let v243 : BitVec 1 := Scalar.cmpi .slt v241 c0_i32_164
  let c0_i32_165 : BitVec 32 := 0#32
  let v244 : BitVec 1 := Scalar.cmpi .slt v240 c0_i32_165
  let v245 : BitVec 1 := Scalar.xori v243 v244
  let c0_i32_163 : BitVec 32 := 0#32
  let v242 : BitVec 1 := Scalar.cmpi .ne v241 c0_i32_163
  let v246 : BitVec 1 := Scalar.andi v245 v242
  let v247 : BitVec 32 := Scalar.addi v241 v240
  let v248 : BitVec 32 := Scalar.select v246 v247 v241
  let c1_i32_170 : BitVec 32 := 1#32
  let v253 : BitVec 32 := Scalar.muli v248 c1_i32_170
  let v254 : BitVec 32 := Scalar.addi v252 v253
  v254.toNat
def k0_dev8 (d0 : Dev nD) : Nat :=
  let c0_i32_187 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_171 : BitVec 32 := 1#32
  let v255 : BitVec 32 := Scalar.addi v2 c1_i32_171
  let c2_i32_172 : BitVec 32 := 2#32
  let c0_i32_173 : BitVec 32 := 0#32
  let v256 : BitVec 1 := Scalar.cmpi .eq c2_i32_172 c0_i32_173
  let c1_i32_174 : BitVec 32 := 1#32
  let v257 : BitVec 32 := Scalar.select v256 c1_i32_174 c2_i32_172
  let v258 : BitVec 32 := Scalar.remsi v255 v257
  let c0_i32_176 : BitVec 32 := 0#32
  let v260 : BitVec 1 := Scalar.cmpi .slt v258 c0_i32_176
  let c0_i32_177 : BitVec 32 := 0#32
  let v261 : BitVec 1 := Scalar.cmpi .slt v257 c0_i32_177
  let v262 : BitVec 1 := Scalar.xori v260 v261
  let c0_i32_175 : BitVec 32 := 0#32
  let v259 : BitVec 1 := Scalar.cmpi .ne v258 c0_i32_175
  let v263 : BitVec 1 := Scalar.andi v262 v259
  let v264 : BitVec 32 := Scalar.addi v258 v257
  let v265 : BitVec 32 := Scalar.select v263 v264 v258
  let c16_i32_186 : BitVec 32 := 16#32
  let v277 : BitVec 32 := Scalar.muli v265 c16_i32_186
  let v278 : BitVec 32 := Scalar.addi c0_i32_187 v277
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_188 : BitVec 32 := 4#32
  let v279 : BitVec 32 := Scalar.muli v5 c4_i32_188
  let v280 : BitVec 32 := Scalar.addi v278 v279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_178 : BitVec 32 := 1#32
  let v266 : BitVec 32 := Scalar.addi v8 c1_i32_178
  let c4_i32_179 : BitVec 32 := 4#32
  let c0_i32_180 : BitVec 32 := 0#32
  let v267 : BitVec 1 := Scalar.cmpi .eq c4_i32_179 c0_i32_180
  let c1_i32_181 : BitVec 32 := 1#32
  let v268 : BitVec 32 := Scalar.select v267 c1_i32_181 c4_i32_179
  let v269 : BitVec 32 := Scalar.remsi v266 v268
  let c0_i32_183 : BitVec 32 := 0#32
  let v271 : BitVec 1 := Scalar.cmpi .slt v269 c0_i32_183
  let c0_i32_184 : BitVec 32 := 0#32
  let v272 : BitVec 1 := Scalar.cmpi .slt v268 c0_i32_184
  let v273 : BitVec 1 := Scalar.xori v271 v272
  let c0_i32_182 : BitVec 32 := 0#32
  let v270 : BitVec 1 := Scalar.cmpi .ne v269 c0_i32_182
  let v274 : BitVec 1 := Scalar.andi v273 v270
  let v275 : BitVec 32 := Scalar.addi v269 v268
  let v276 : BitVec 32 := Scalar.select v274 v275 v269
  let c1_i32_189 : BitVec 32 := 1#32
  let v281 : BitVec 32 := Scalar.muli v276 c1_i32_189
  let v282 : BitVec 32 := Scalar.addi v280 v281
  v282.toNat
def k0_dev9 (d0 : Dev nD) : Nat :=
  let c0_i32_206 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_190 : BitVec 32 := 1#32
  let v283 : BitVec 32 := Scalar.addi v2 c1_i32_190
  let c2_i32_191 : BitVec 32 := 2#32
  let c0_i32_192 : BitVec 32 := 0#32
  let v284 : BitVec 1 := Scalar.cmpi .eq c2_i32_191 c0_i32_192
  let c1_i32_193 : BitVec 32 := 1#32
  let v285 : BitVec 32 := Scalar.select v284 c1_i32_193 c2_i32_191
  let v286 : BitVec 32 := Scalar.remsi v283 v285
  let c0_i32_195 : BitVec 32 := 0#32
  let v288 : BitVec 1 := Scalar.cmpi .slt v286 c0_i32_195
  let c0_i32_196 : BitVec 32 := 0#32
  let v289 : BitVec 1 := Scalar.cmpi .slt v285 c0_i32_196
  let v290 : BitVec 1 := Scalar.xori v288 v289
  let c0_i32_194 : BitVec 32 := 0#32
  let v287 : BitVec 1 := Scalar.cmpi .ne v286 c0_i32_194
  let v291 : BitVec 1 := Scalar.andi v290 v287
  let v292 : BitVec 32 := Scalar.addi v286 v285
  let v293 : BitVec 32 := Scalar.select v291 v292 v286
  let c16_i32_205 : BitVec 32 := 16#32
  let v305 : BitVec 32 := Scalar.muli v293 c16_i32_205
  let v306 : BitVec 32 := Scalar.addi c0_i32_206 v305
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_207 : BitVec 32 := 4#32
  let v307 : BitVec 32 := Scalar.muli v5 c4_i32_207
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_197 : BitVec 32 := 3#32
  let v294 : BitVec 32 := Scalar.addi v8 c3_i32_197
  let c4_i32_198 : BitVec 32 := 4#32
  let c0_i32_199 : BitVec 32 := 0#32
  let v295 : BitVec 1 := Scalar.cmpi .eq c4_i32_198 c0_i32_199
  let c1_i32_200 : BitVec 32 := 1#32
  let v296 : BitVec 32 := Scalar.select v295 c1_i32_200 c4_i32_198
  let v297 : BitVec 32 := Scalar.remsi v294 v296
  let c0_i32_202 : BitVec 32 := 0#32
  let v299 : BitVec 1 := Scalar.cmpi .slt v297 c0_i32_202
  let c0_i32_203 : BitVec 32 := 0#32
  let v300 : BitVec 1 := Scalar.cmpi .slt v296 c0_i32_203
  let v301 : BitVec 1 := Scalar.xori v299 v300
  let c0_i32_201 : BitVec 32 := 0#32
  let v298 : BitVec 1 := Scalar.cmpi .ne v297 c0_i32_201
  let v302 : BitVec 1 := Scalar.andi v301 v298
  let v303 : BitVec 32 := Scalar.addi v297 v296
  let v304 : BitVec 32 := Scalar.select v302 v303 v297
  let c1_i32_208 : BitVec 32 := 1#32
  let v309 : BitVec 32 := Scalar.muli v304 c1_i32_208
  let v310 : BitVec 32 := Scalar.addi v308 v309
  v310.toNat
def k0_dev10 (d0 : Dev nD) : Nat :=
  let c0_i32_225 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_209 : BitVec 32 := 1#32
  let v311 : BitVec 32 := Scalar.addi v2 c1_i32_209
  let c2_i32_210 : BitVec 32 := 2#32
  let c0_i32_211 : BitVec 32 := 0#32
  let v312 : BitVec 1 := Scalar.cmpi .eq c2_i32_210 c0_i32_211
  let c1_i32_212 : BitVec 32 := 1#32
  let v313 : BitVec 32 := Scalar.select v312 c1_i32_212 c2_i32_210
  let v314 : BitVec 32 := Scalar.remsi v311 v313
  let c0_i32_214 : BitVec 32 := 0#32
  let v316 : BitVec 1 := Scalar.cmpi .slt v314 c0_i32_214
  let c0_i32_215 : BitVec 32 := 0#32
  let v317 : BitVec 1 := Scalar.cmpi .slt v313 c0_i32_215
  let v318 : BitVec 1 := Scalar.xori v316 v317
  let c0_i32_213 : BitVec 32 := 0#32
  let v315 : BitVec 1 := Scalar.cmpi .ne v314 c0_i32_213
  let v319 : BitVec 1 := Scalar.andi v318 v315
  let v320 : BitVec 32 := Scalar.addi v314 v313
  let v321 : BitVec 32 := Scalar.select v319 v320 v314
  let c16_i32_224 : BitVec 32 := 16#32
  let v333 : BitVec 32 := Scalar.muli v321 c16_i32_224
  let v334 : BitVec 32 := Scalar.addi c0_i32_225 v333
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_226 : BitVec 32 := 4#32
  let v335 : BitVec 32 := Scalar.muli v5 c4_i32_226
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_216 : BitVec 32 := 2#32
  let v322 : BitVec 32 := Scalar.addi v8 c2_i32_216
  let c4_i32_217 : BitVec 32 := 4#32
  let c0_i32_218 : BitVec 32 := 0#32
  let v323 : BitVec 1 := Scalar.cmpi .eq c4_i32_217 c0_i32_218
  let c1_i32_219 : BitVec 32 := 1#32
  let v324 : BitVec 32 := Scalar.select v323 c1_i32_219 c4_i32_217
  let v325 : BitVec 32 := Scalar.remsi v322 v324
  let c0_i32_221 : BitVec 32 := 0#32
  let v327 : BitVec 1 := Scalar.cmpi .slt v325 c0_i32_221
  let c0_i32_222 : BitVec 32 := 0#32
  let v328 : BitVec 1 := Scalar.cmpi .slt v324 c0_i32_222
  let v329 : BitVec 1 := Scalar.xori v327 v328
  let c0_i32_220 : BitVec 32 := 0#32
  let v326 : BitVec 1 := Scalar.cmpi .ne v325 c0_i32_220
  let v330 : BitVec 1 := Scalar.andi v329 v326
  let v331 : BitVec 32 := Scalar.addi v325 v324
  let v332 : BitVec 32 := Scalar.select v330 v331 v325
  let c1_i32_227 : BitVec 32 := 1#32
  let v337 : BitVec 32 := Scalar.muli v332 c1_i32_227
  let v338 : BitVec 32 := Scalar.addi v336 v337
  v338.toNat
def k0_dev11 (d0 : Dev nD) : Nat :=
  let c0_i32_273 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_272 : BitVec 32 := 16#32
  let v386 : BitVec 32 := Scalar.muli v2 c16_i32_272
  let v387 : BitVec 32 := Scalar.addi c0_i32_273 v386
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_261 : BitVec 32 := 1#32
  let v375 : BitVec 32 := Scalar.addi v5 c1_i32_261
  let c4_i32_262 : BitVec 32 := 4#32
  let c0_i32_263 : BitVec 32 := 0#32
  let v376 : BitVec 1 := Scalar.cmpi .eq c4_i32_262 c0_i32_263
  let c1_i32_264 : BitVec 32 := 1#32
  let v377 : BitVec 32 := Scalar.select v376 c1_i32_264 c4_i32_262
  let v378 : BitVec 32 := Scalar.remsi v375 v377
  let c0_i32_266 : BitVec 32 := 0#32
  let v380 : BitVec 1 := Scalar.cmpi .slt v378 c0_i32_266
  let c0_i32_267 : BitVec 32 := 0#32
  let v381 : BitVec 1 := Scalar.cmpi .slt v377 c0_i32_267
  let v382 : BitVec 1 := Scalar.xori v380 v381
  let c0_i32_265 : BitVec 32 := 0#32
  let v379 : BitVec 1 := Scalar.cmpi .ne v378 c0_i32_265
  let v383 : BitVec 1 := Scalar.andi v382 v379
  let v384 : BitVec 32 := Scalar.addi v378 v377
  let v385 : BitVec 32 := Scalar.select v383 v384 v378
  let c4_i32_274 : BitVec 32 := 4#32
  let v388 : BitVec 32 := Scalar.muli v385 c4_i32_274
  let v389 : BitVec 32 := Scalar.addi v387 v388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_275 : BitVec 32 := 1#32
  let v390 : BitVec 32 := Scalar.muli v8 c1_i32_275
  let v391 : BitVec 32 := Scalar.addi v389 v390
  v391.toNat
def k0_dev12 (d0 : Dev nD) : Nat :=
  let c0_i32_292 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_291 : BitVec 32 := 16#32
  let v411 : BitVec 32 := Scalar.muli v2 c16_i32_291
  let v412 : BitVec 32 := Scalar.addi c0_i32_292 v411
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_280 : BitVec 32 := 2#32
  let v400 : BitVec 32 := Scalar.addi v5 c2_i32_280
  let c4_i32_281 : BitVec 32 := 4#32
  let c0_i32_282 : BitVec 32 := 0#32
  let v401 : BitVec 1 := Scalar.cmpi .eq c4_i32_281 c0_i32_282
  let c1_i32_283 : BitVec 32 := 1#32
  let v402 : BitVec 32 := Scalar.select v401 c1_i32_283 c4_i32_281
  let v403 : BitVec 32 := Scalar.remsi v400 v402
  let c0_i32_285 : BitVec 32 := 0#32
  let v405 : BitVec 1 := Scalar.cmpi .slt v403 c0_i32_285
  let c0_i32_286 : BitVec 32 := 0#32
  let v406 : BitVec 1 := Scalar.cmpi .slt v402 c0_i32_286
  let v407 : BitVec 1 := Scalar.xori v405 v406
  let c0_i32_284 : BitVec 32 := 0#32
  let v404 : BitVec 1 := Scalar.cmpi .ne v403 c0_i32_284
  let v408 : BitVec 1 := Scalar.andi v407 v404
  let v409 : BitVec 32 := Scalar.addi v403 v402
  let v410 : BitVec 32 := Scalar.select v408 v409 v403
  let c4_i32_293 : BitVec 32 := 4#32
  let v413 : BitVec 32 := Scalar.muli v410 c4_i32_293
  let v414 : BitVec 32 := Scalar.addi v412 v413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_294 : BitVec 32 := 1#32
  let v415 : BitVec 32 := Scalar.muli v8 c1_i32_294
  let v416 : BitVec 32 := Scalar.addi v414 v415
  v416.toNat
def k0_dev13 (d0 : Dev nD) : Nat :=
  let c0_i32_311 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_310 : BitVec 32 := 16#32
  let v436 : BitVec 32 := Scalar.muli v2 c16_i32_310
  let v437 : BitVec 32 := Scalar.addi c0_i32_311 v436
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_299 : BitVec 32 := 3#32
  let v425 : BitVec 32 := Scalar.addi v5 c3_i32_299
  let c4_i32_300 : BitVec 32 := 4#32
  let c0_i32_301 : BitVec 32 := 0#32
  let v426 : BitVec 1 := Scalar.cmpi .eq c4_i32_300 c0_i32_301
  let c1_i32_302 : BitVec 32 := 1#32
  let v427 : BitVec 32 := Scalar.select v426 c1_i32_302 c4_i32_300
  let v428 : BitVec 32 := Scalar.remsi v425 v427
  let c0_i32_304 : BitVec 32 := 0#32
  let v430 : BitVec 1 := Scalar.cmpi .slt v428 c0_i32_304
  let c0_i32_305 : BitVec 32 := 0#32
  let v431 : BitVec 1 := Scalar.cmpi .slt v427 c0_i32_305
  let v432 : BitVec 1 := Scalar.xori v430 v431
  let c0_i32_303 : BitVec 32 := 0#32
  let v429 : BitVec 1 := Scalar.cmpi .ne v428 c0_i32_303
  let v433 : BitVec 1 := Scalar.andi v432 v429
  let v434 : BitVec 32 := Scalar.addi v428 v427
  let v435 : BitVec 32 := Scalar.select v433 v434 v428
  let c4_i32_312 : BitVec 32 := 4#32
  let v438 : BitVec 32 := Scalar.muli v435 c4_i32_312
  let v439 : BitVec 32 := Scalar.addi v437 v438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_313 : BitVec 32 := 1#32
  let v440 : BitVec 32 := Scalar.muli v8 c1_i32_313
  let v441 : BitVec 32 := Scalar.addi v439 v440
  v441.toNat
def k0_off2 (d0 : Dev nD) : Fin 3 → Nat :=
  let c4_i32_2 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.muli c4_i32_2 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v522 : Index := Scalar.indexCast v10
  let c0_375 : Index := 0#32
  let c0_376 : Index := 0#32
  ![v522.toNat, 0, 0]
def k0_off3 (d0 : Dev nD) (c0_i32_378 : BitVec 32) (c1_i32_385 : BitVec 32) : Fin 1 → Nat :=
  let c4_i32_392 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v526 : BitVec 32 := Scalar.addi v2 c0_i32_378
  let c2_i32_379 : BitVec 32 := 2#32
  let c0_i32_380 : BitVec 32 := 0#32
  let v527 : BitVec 1 := Scalar.cmpi .eq c2_i32_379 c0_i32_380
  let c1_i32_381 : BitVec 32 := 1#32
  let v528 : BitVec 32 := Scalar.select v527 c1_i32_381 c2_i32_379
  let v529 : BitVec 32 := Scalar.remsi v526 v528
  let c0_i32_383 : BitVec 32 := 0#32
  let v531 : BitVec 1 := Scalar.cmpi .slt v529 c0_i32_383
  let c0_i32_384 : BitVec 32 := 0#32
  let v532 : BitVec 1 := Scalar.cmpi .slt v528 c0_i32_384
  let v533 : BitVec 1 := Scalar.xori v531 v532
  let c0_i32_382 : BitVec 32 := 0#32
  let v530 : BitVec 1 := Scalar.cmpi .ne v529 c0_i32_382
  let v534 : BitVec 1 := Scalar.andi v533 v530
  let v535 : BitVec 32 := Scalar.addi v529 v528
  let v536 : BitVec 32 := Scalar.select v534 v535 v529
  let v548 : BitVec 32 := Scalar.muli c4_i32_392 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v537 : BitVec 32 := Scalar.addi v8 c1_i32_385
  let c4_i32_386 : BitVec 32 := 4#32
  let c0_i32_387 : BitVec 32 := 0#32
  let v538 : BitVec 1 := Scalar.cmpi .eq c4_i32_386 c0_i32_387
  let c1_i32_388 : BitVec 32 := 1#32
  let v539 : BitVec 32 := Scalar.select v538 c1_i32_388 c4_i32_386
  let v540 : BitVec 32 := Scalar.remsi v537 v539
  let c0_i32_390 : BitVec 32 := 0#32
  let v542 : BitVec 1 := Scalar.cmpi .slt v540 c0_i32_390
  let c0_i32_391 : BitVec 32 := 0#32
  let v543 : BitVec 1 := Scalar.cmpi .slt v539 c0_i32_391
  let v544 : BitVec 1 := Scalar.xori v542 v543
  let c0_i32_389 : BitVec 32 := 0#32
  let v541 : BitVec 1 := Scalar.cmpi .ne v540 c0_i32_389
  let v545 : BitVec 1 := Scalar.andi v544 v541
  let v546 : BitVec 32 := Scalar.addi v540 v539
  let v547 : BitVec 32 := Scalar.select v545 v546 v540
  let v549 : BitVec 32 := Scalar.addi v548 v547
  ![v549.toNat]
def k0_off3_at (r : Fin 7) : BitVec 32 × BitVec 32 :=
  if r.val < 3 then
    if r.val < 1 then
      (0#32, 1#32)
    else
      if r.val < 2 then
        (0#32, 3#32)
      else
        (1#32, 0#32)
  else
    if r.val < 5 then
      if r.val < 4 then
        (0#32, 2#32)
      else
        (1#32, 1#32)
    else
      if r.val < 6 then
        (1#32, 3#32)
      else
        (1#32, 2#32)
def k0_off4 (d0 : Dev nD) : Fin 1 → Nat :=
  let c4_i32_2 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.muli c4_i32_2 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off5 (d0 : Dev nD) : Fin 3 → Nat :=
  let c4_i32_2 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.muli c4_i32_2 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_397 : BitVec 32 := 0#32
  let c0_i32_398 : BitVec 32 := 0#32
  ![v10.toNat, 0, 0]
def k0_dev14 (d0 : Dev nD) : Nat :=
  let c0_i32_394 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_378 : BitVec 32 := 0#32
  let v526 : BitVec 32 := Scalar.addi v2 c0_i32_378
  let c2_i32_379 : BitVec 32 := 2#32
  let c0_i32_380 : BitVec 32 := 0#32
  let v527 : BitVec 1 := Scalar.cmpi .eq c2_i32_379 c0_i32_380
  let c1_i32_381 : BitVec 32 := 1#32
  let v528 : BitVec 32 := Scalar.select v527 c1_i32_381 c2_i32_379
  let v529 : BitVec 32 := Scalar.remsi v526 v528
  let c0_i32_383 : BitVec 32 := 0#32
  let v531 : BitVec 1 := Scalar.cmpi .slt v529 c0_i32_383
  let c0_i32_384 : BitVec 32 := 0#32
  let v532 : BitVec 1 := Scalar.cmpi .slt v528 c0_i32_384
  let v533 : BitVec 1 := Scalar.xori v531 v532
  let c0_i32_382 : BitVec 32 := 0#32
  let v530 : BitVec 1 := Scalar.cmpi .ne v529 c0_i32_382
  let v534 : BitVec 1 := Scalar.andi v533 v530
  let v535 : BitVec 32 := Scalar.addi v529 v528
  let v536 : BitVec 32 := Scalar.select v534 v535 v529
  let c16_i32_393 : BitVec 32 := 16#32
  let v550 : BitVec 32 := Scalar.muli v536 c16_i32_393
  let v551 : BitVec 32 := Scalar.addi c0_i32_394 v550
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_395 : BitVec 32 := 4#32
  let v552 : BitVec 32 := Scalar.muli v5 c4_i32_395
  let v553 : BitVec 32 := Scalar.addi v551 v552
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_385 : BitVec 32 := 1#32
  let v537 : BitVec 32 := Scalar.addi v8 c1_i32_385
  let c4_i32_386 : BitVec 32 := 4#32
  let c0_i32_387 : BitVec 32 := 0#32
  let v538 : BitVec 1 := Scalar.cmpi .eq c4_i32_386 c0_i32_387
  let c1_i32_388 : BitVec 32 := 1#32
  let v539 : BitVec 32 := Scalar.select v538 c1_i32_388 c4_i32_386
  let v540 : BitVec 32 := Scalar.remsi v537 v539
  let c0_i32_390 : BitVec 32 := 0#32
  let v542 : BitVec 1 := Scalar.cmpi .slt v540 c0_i32_390
  let c0_i32_391 : BitVec 32 := 0#32
  let v543 : BitVec 1 := Scalar.cmpi .slt v539 c0_i32_391
  let v544 : BitVec 1 := Scalar.xori v542 v543
  let c0_i32_389 : BitVec 32 := 0#32
  let v541 : BitVec 1 := Scalar.cmpi .ne v540 c0_i32_389
  let v545 : BitVec 1 := Scalar.andi v544 v541
  let v546 : BitVec 32 := Scalar.addi v540 v539
  let v547 : BitVec 32 := Scalar.select v545 v546 v540
  let c1_i32_396 : BitVec 32 := 1#32
  let v554 : BitVec 32 := Scalar.muli v547 c1_i32_396
  let v555 : BitVec 32 := Scalar.addi v553 v554
  v555.toNat
def k0_dev15 (d0 : Dev nD) : Nat :=
  let c0_i32_417 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_401 : BitVec 32 := 0#32
  let v564 : BitVec 32 := Scalar.addi v2 c0_i32_401
  let c2_i32_402 : BitVec 32 := 2#32
  let c0_i32_403 : BitVec 32 := 0#32
  let v565 : BitVec 1 := Scalar.cmpi .eq c2_i32_402 c0_i32_403
  let c1_i32_404 : BitVec 32 := 1#32
  let v566 : BitVec 32 := Scalar.select v565 c1_i32_404 c2_i32_402
  let v567 : BitVec 32 := Scalar.remsi v564 v566
  let c0_i32_406 : BitVec 32 := 0#32
  let v569 : BitVec 1 := Scalar.cmpi .slt v567 c0_i32_406
  let c0_i32_407 : BitVec 32 := 0#32
  let v570 : BitVec 1 := Scalar.cmpi .slt v566 c0_i32_407
  let v571 : BitVec 1 := Scalar.xori v569 v570
  let c0_i32_405 : BitVec 32 := 0#32
  let v568 : BitVec 1 := Scalar.cmpi .ne v567 c0_i32_405
  let v572 : BitVec 1 := Scalar.andi v571 v568
  let v573 : BitVec 32 := Scalar.addi v567 v566
  let v574 : BitVec 32 := Scalar.select v572 v573 v567
  let c16_i32_416 : BitVec 32 := 16#32
  let v588 : BitVec 32 := Scalar.muli v574 c16_i32_416
  let v589 : BitVec 32 := Scalar.addi c0_i32_417 v588
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_418 : BitVec 32 := 4#32
  let v590 : BitVec 32 := Scalar.muli v5 c4_i32_418
  let v591 : BitVec 32 := Scalar.addi v589 v590
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_408 : BitVec 32 := 3#32
  let v575 : BitVec 32 := Scalar.addi v8 c3_i32_408
  let c4_i32_409 : BitVec 32 := 4#32
  let c0_i32_410 : BitVec 32 := 0#32
  let v576 : BitVec 1 := Scalar.cmpi .eq c4_i32_409 c0_i32_410
  let c1_i32_411 : BitVec 32 := 1#32
  let v577 : BitVec 32 := Scalar.select v576 c1_i32_411 c4_i32_409
  let v578 : BitVec 32 := Scalar.remsi v575 v577
  let c0_i32_413 : BitVec 32 := 0#32
  let v580 : BitVec 1 := Scalar.cmpi .slt v578 c0_i32_413
  let c0_i32_414 : BitVec 32 := 0#32
  let v581 : BitVec 1 := Scalar.cmpi .slt v577 c0_i32_414
  let v582 : BitVec 1 := Scalar.xori v580 v581
  let c0_i32_412 : BitVec 32 := 0#32
  let v579 : BitVec 1 := Scalar.cmpi .ne v578 c0_i32_412
  let v583 : BitVec 1 := Scalar.andi v582 v579
  let v584 : BitVec 32 := Scalar.addi v578 v577
  let v585 : BitVec 32 := Scalar.select v583 v584 v578
  let c1_i32_419 : BitVec 32 := 1#32
  let v592 : BitVec 32 := Scalar.muli v585 c1_i32_419
  let v593 : BitVec 32 := Scalar.addi v591 v592
  v593.toNat
def k0_dev16 (d0 : Dev nD) : Nat :=
  let c0_i32_440 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_424 : BitVec 32 := 1#32
  let v602 : BitVec 32 := Scalar.addi v2 c1_i32_424
  let c2_i32_425 : BitVec 32 := 2#32
  let c0_i32_426 : BitVec 32 := 0#32
  let v603 : BitVec 1 := Scalar.cmpi .eq c2_i32_425 c0_i32_426
  let c1_i32_427 : BitVec 32 := 1#32
  let v604 : BitVec 32 := Scalar.select v603 c1_i32_427 c2_i32_425
  let v605 : BitVec 32 := Scalar.remsi v602 v604
  let c0_i32_429 : BitVec 32 := 0#32
  let v607 : BitVec 1 := Scalar.cmpi .slt v605 c0_i32_429
  let c0_i32_430 : BitVec 32 := 0#32
  let v608 : BitVec 1 := Scalar.cmpi .slt v604 c0_i32_430
  let v609 : BitVec 1 := Scalar.xori v607 v608
  let c0_i32_428 : BitVec 32 := 0#32
  let v606 : BitVec 1 := Scalar.cmpi .ne v605 c0_i32_428
  let v610 : BitVec 1 := Scalar.andi v609 v606
  let v611 : BitVec 32 := Scalar.addi v605 v604
  let v612 : BitVec 32 := Scalar.select v610 v611 v605
  let c16_i32_439 : BitVec 32 := 16#32
  let v626 : BitVec 32 := Scalar.muli v612 c16_i32_439
  let v627 : BitVec 32 := Scalar.addi c0_i32_440 v626
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_441 : BitVec 32 := 4#32
  let v628 : BitVec 32 := Scalar.muli v5 c4_i32_441
  let v629 : BitVec 32 := Scalar.addi v627 v628
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_431 : BitVec 32 := 0#32
  let v613 : BitVec 32 := Scalar.addi v8 c0_i32_431
  let c4_i32_432 : BitVec 32 := 4#32
  let c0_i32_433 : BitVec 32 := 0#32
  let v614 : BitVec 1 := Scalar.cmpi .eq c4_i32_432 c0_i32_433
  let c1_i32_434 : BitVec 32 := 1#32
  let v615 : BitVec 32 := Scalar.select v614 c1_i32_434 c4_i32_432
  let v616 : BitVec 32 := Scalar.remsi v613 v615
  let c0_i32_436 : BitVec 32 := 0#32
  let v618 : BitVec 1 := Scalar.cmpi .slt v616 c0_i32_436
  let c0_i32_437 : BitVec 32 := 0#32
  let v619 : BitVec 1 := Scalar.cmpi .slt v615 c0_i32_437
  let v620 : BitVec 1 := Scalar.xori v618 v619
  let c0_i32_435 : BitVec 32 := 0#32
  let v617 : BitVec 1 := Scalar.cmpi .ne v616 c0_i32_435
  let v621 : BitVec 1 := Scalar.andi v620 v617
  let v622 : BitVec 32 := Scalar.addi v616 v615
  let v623 : BitVec 32 := Scalar.select v621 v622 v616
  let c1_i32_442 : BitVec 32 := 1#32
  let v630 : BitVec 32 := Scalar.muli v623 c1_i32_442
  let v631 : BitVec 32 := Scalar.addi v629 v630
  v631.toNat
def k0_dev17 (d0 : Dev nD) : Nat :=
  let c0_i32_463 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_447 : BitVec 32 := 0#32
  let v640 : BitVec 32 := Scalar.addi v2 c0_i32_447
  let c2_i32_448 : BitVec 32 := 2#32
  let c0_i32_449 : BitVec 32 := 0#32
  let v641 : BitVec 1 := Scalar.cmpi .eq c2_i32_448 c0_i32_449
  let c1_i32_450 : BitVec 32 := 1#32
  let v642 : BitVec 32 := Scalar.select v641 c1_i32_450 c2_i32_448
  let v643 : BitVec 32 := Scalar.remsi v640 v642
  let c0_i32_452 : BitVec 32 := 0#32
  let v645 : BitVec 1 := Scalar.cmpi .slt v643 c0_i32_452
  let c0_i32_453 : BitVec 32 := 0#32
  let v646 : BitVec 1 := Scalar.cmpi .slt v642 c0_i32_453
  let v647 : BitVec 1 := Scalar.xori v645 v646
  let c0_i32_451 : BitVec 32 := 0#32
  let v644 : BitVec 1 := Scalar.cmpi .ne v643 c0_i32_451
  let v648 : BitVec 1 := Scalar.andi v647 v644
  let v649 : BitVec 32 := Scalar.addi v643 v642
  let v650 : BitVec 32 := Scalar.select v648 v649 v643
  let c16_i32_462 : BitVec 32 := 16#32
  let v664 : BitVec 32 := Scalar.muli v650 c16_i32_462
  let v665 : BitVec 32 := Scalar.addi c0_i32_463 v664
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_464 : BitVec 32 := 4#32
  let v666 : BitVec 32 := Scalar.muli v5 c4_i32_464
  let v667 : BitVec 32 := Scalar.addi v665 v666
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_454 : BitVec 32 := 2#32
  let v651 : BitVec 32 := Scalar.addi v8 c2_i32_454
  let c4_i32_455 : BitVec 32 := 4#32
  let c0_i32_456 : BitVec 32 := 0#32
  let v652 : BitVec 1 := Scalar.cmpi .eq c4_i32_455 c0_i32_456
  let c1_i32_457 : BitVec 32 := 1#32
  let v653 : BitVec 32 := Scalar.select v652 c1_i32_457 c4_i32_455
  let v654 : BitVec 32 := Scalar.remsi v651 v653
  let c0_i32_459 : BitVec 32 := 0#32
  let v656 : BitVec 1 := Scalar.cmpi .slt v654 c0_i32_459
  let c0_i32_460 : BitVec 32 := 0#32
  let v657 : BitVec 1 := Scalar.cmpi .slt v653 c0_i32_460
  let v658 : BitVec 1 := Scalar.xori v656 v657
  let c0_i32_458 : BitVec 32 := 0#32
  let v655 : BitVec 1 := Scalar.cmpi .ne v654 c0_i32_458
  let v659 : BitVec 1 := Scalar.andi v658 v655
  let v660 : BitVec 32 := Scalar.addi v654 v653
  let v661 : BitVec 32 := Scalar.select v659 v660 v654
  let c1_i32_465 : BitVec 32 := 1#32
  let v668 : BitVec 32 := Scalar.muli v661 c1_i32_465
  let v669 : BitVec 32 := Scalar.addi v667 v668
  v669.toNat
def k0_dev18 (d0 : Dev nD) : Nat :=
  let c0_i32_486 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_470 : BitVec 32 := 1#32
  let v678 : BitVec 32 := Scalar.addi v2 c1_i32_470
  let c2_i32_471 : BitVec 32 := 2#32
  let c0_i32_472 : BitVec 32 := 0#32
  let v679 : BitVec 1 := Scalar.cmpi .eq c2_i32_471 c0_i32_472
  let c1_i32_473 : BitVec 32 := 1#32
  let v680 : BitVec 32 := Scalar.select v679 c1_i32_473 c2_i32_471
  let v681 : BitVec 32 := Scalar.remsi v678 v680
  let c0_i32_475 : BitVec 32 := 0#32
  let v683 : BitVec 1 := Scalar.cmpi .slt v681 c0_i32_475
  let c0_i32_476 : BitVec 32 := 0#32
  let v684 : BitVec 1 := Scalar.cmpi .slt v680 c0_i32_476
  let v685 : BitVec 1 := Scalar.xori v683 v684
  let c0_i32_474 : BitVec 32 := 0#32
  let v682 : BitVec 1 := Scalar.cmpi .ne v681 c0_i32_474
  let v686 : BitVec 1 := Scalar.andi v685 v682
  let v687 : BitVec 32 := Scalar.addi v681 v680
  let v688 : BitVec 32 := Scalar.select v686 v687 v681
  let c16_i32_485 : BitVec 32 := 16#32
  let v702 : BitVec 32 := Scalar.muli v688 c16_i32_485
  let v703 : BitVec 32 := Scalar.addi c0_i32_486 v702
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_487 : BitVec 32 := 4#32
  let v704 : BitVec 32 := Scalar.muli v5 c4_i32_487
  let v705 : BitVec 32 := Scalar.addi v703 v704
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_477 : BitVec 32 := 1#32
  let v689 : BitVec 32 := Scalar.addi v8 c1_i32_477
  let c4_i32_478 : BitVec 32 := 4#32
  let c0_i32_479 : BitVec 32 := 0#32
  let v690 : BitVec 1 := Scalar.cmpi .eq c4_i32_478 c0_i32_479
  let c1_i32_480 : BitVec 32 := 1#32
  let v691 : BitVec 32 := Scalar.select v690 c1_i32_480 c4_i32_478
  let v692 : BitVec 32 := Scalar.remsi v689 v691
  let c0_i32_482 : BitVec 32 := 0#32
  let v694 : BitVec 1 := Scalar.cmpi .slt v692 c0_i32_482
  let c0_i32_483 : BitVec 32 := 0#32
  let v695 : BitVec 1 := Scalar.cmpi .slt v691 c0_i32_483
  let v696 : BitVec 1 := Scalar.xori v694 v695
  let c0_i32_481 : BitVec 32 := 0#32
  let v693 : BitVec 1 := Scalar.cmpi .ne v692 c0_i32_481
  let v697 : BitVec 1 := Scalar.andi v696 v693
  let v698 : BitVec 32 := Scalar.addi v692 v691
  let v699 : BitVec 32 := Scalar.select v697 v698 v692
  let c1_i32_488 : BitVec 32 := 1#32
  let v706 : BitVec 32 := Scalar.muli v699 c1_i32_488
  let v707 : BitVec 32 := Scalar.addi v705 v706
  v707.toNat
def k0_dev19 (d0 : Dev nD) : Nat :=
  let c0_i32_509 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_493 : BitVec 32 := 1#32
  let v716 : BitVec 32 := Scalar.addi v2 c1_i32_493
  let c2_i32_494 : BitVec 32 := 2#32
  let c0_i32_495 : BitVec 32 := 0#32
  let v717 : BitVec 1 := Scalar.cmpi .eq c2_i32_494 c0_i32_495
  let c1_i32_496 : BitVec 32 := 1#32
  let v718 : BitVec 32 := Scalar.select v717 c1_i32_496 c2_i32_494
  let v719 : BitVec 32 := Scalar.remsi v716 v718
  let c0_i32_498 : BitVec 32 := 0#32
  let v721 : BitVec 1 := Scalar.cmpi .slt v719 c0_i32_498
  let c0_i32_499 : BitVec 32 := 0#32
  let v722 : BitVec 1 := Scalar.cmpi .slt v718 c0_i32_499
  let v723 : BitVec 1 := Scalar.xori v721 v722
  let c0_i32_497 : BitVec 32 := 0#32
  let v720 : BitVec 1 := Scalar.cmpi .ne v719 c0_i32_497
  let v724 : BitVec 1 := Scalar.andi v723 v720
  let v725 : BitVec 32 := Scalar.addi v719 v718
  let v726 : BitVec 32 := Scalar.select v724 v725 v719
  let c16_i32_508 : BitVec 32 := 16#32
  let v740 : BitVec 32 := Scalar.muli v726 c16_i32_508
  let v741 : BitVec 32 := Scalar.addi c0_i32_509 v740
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_510 : BitVec 32 := 4#32
  let v742 : BitVec 32 := Scalar.muli v5 c4_i32_510
  let v743 : BitVec 32 := Scalar.addi v741 v742
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_500 : BitVec 32 := 3#32
  let v727 : BitVec 32 := Scalar.addi v8 c3_i32_500
  let c4_i32_501 : BitVec 32 := 4#32
  let c0_i32_502 : BitVec 32 := 0#32
  let v728 : BitVec 1 := Scalar.cmpi .eq c4_i32_501 c0_i32_502
  let c1_i32_503 : BitVec 32 := 1#32
  let v729 : BitVec 32 := Scalar.select v728 c1_i32_503 c4_i32_501
  let v730 : BitVec 32 := Scalar.remsi v727 v729
  let c0_i32_505 : BitVec 32 := 0#32
  let v732 : BitVec 1 := Scalar.cmpi .slt v730 c0_i32_505
  let c0_i32_506 : BitVec 32 := 0#32
  let v733 : BitVec 1 := Scalar.cmpi .slt v729 c0_i32_506
  let v734 : BitVec 1 := Scalar.xori v732 v733
  let c0_i32_504 : BitVec 32 := 0#32
  let v731 : BitVec 1 := Scalar.cmpi .ne v730 c0_i32_504
  let v735 : BitVec 1 := Scalar.andi v734 v731
  let v736 : BitVec 32 := Scalar.addi v730 v729
  let v737 : BitVec 32 := Scalar.select v735 v736 v730
  let c1_i32_511 : BitVec 32 := 1#32
  let v744 : BitVec 32 := Scalar.muli v737 c1_i32_511
  let v745 : BitVec 32 := Scalar.addi v743 v744
  v745.toNat
def k0_dev20 (d0 : Dev nD) : Nat :=
  let c0_i32_532 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_516 : BitVec 32 := 1#32
  let v754 : BitVec 32 := Scalar.addi v2 c1_i32_516
  let c2_i32_517 : BitVec 32 := 2#32
  let c0_i32_518 : BitVec 32 := 0#32
  let v755 : BitVec 1 := Scalar.cmpi .eq c2_i32_517 c0_i32_518
  let c1_i32_519 : BitVec 32 := 1#32
  let v756 : BitVec 32 := Scalar.select v755 c1_i32_519 c2_i32_517
  let v757 : BitVec 32 := Scalar.remsi v754 v756
  let c0_i32_521 : BitVec 32 := 0#32
  let v759 : BitVec 1 := Scalar.cmpi .slt v757 c0_i32_521
  let c0_i32_522 : BitVec 32 := 0#32
  let v760 : BitVec 1 := Scalar.cmpi .slt v756 c0_i32_522
  let v761 : BitVec 1 := Scalar.xori v759 v760
  let c0_i32_520 : BitVec 32 := 0#32
  let v758 : BitVec 1 := Scalar.cmpi .ne v757 c0_i32_520
  let v762 : BitVec 1 := Scalar.andi v761 v758
  let v763 : BitVec 32 := Scalar.addi v757 v756
  let v764 : BitVec 32 := Scalar.select v762 v763 v757
  let c16_i32_531 : BitVec 32 := 16#32
  let v778 : BitVec 32 := Scalar.muli v764 c16_i32_531
  let v779 : BitVec 32 := Scalar.addi c0_i32_532 v778
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_533 : BitVec 32 := 4#32
  let v780 : BitVec 32 := Scalar.muli v5 c4_i32_533
  let v781 : BitVec 32 := Scalar.addi v779 v780
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_523 : BitVec 32 := 2#32
  let v765 : BitVec 32 := Scalar.addi v8 c2_i32_523
  let c4_i32_524 : BitVec 32 := 4#32
  let c0_i32_525 : BitVec 32 := 0#32
  let v766 : BitVec 1 := Scalar.cmpi .eq c4_i32_524 c0_i32_525
  let c1_i32_526 : BitVec 32 := 1#32
  let v767 : BitVec 32 := Scalar.select v766 c1_i32_526 c4_i32_524
  let v768 : BitVec 32 := Scalar.remsi v765 v767
  let c0_i32_528 : BitVec 32 := 0#32
  let v770 : BitVec 1 := Scalar.cmpi .slt v768 c0_i32_528
  let c0_i32_529 : BitVec 32 := 0#32
  let v771 : BitVec 1 := Scalar.cmpi .slt v767 c0_i32_529
  let v772 : BitVec 1 := Scalar.xori v770 v771
  let c0_i32_527 : BitVec 32 := 0#32
  let v769 : BitVec 1 := Scalar.cmpi .ne v768 c0_i32_527
  let v773 : BitVec 1 := Scalar.andi v772 v769
  let v774 : BitVec 32 := Scalar.addi v768 v767
  let v775 : BitVec 32 := Scalar.select v773 v774 v768
  let c1_i32_534 : BitVec 32 := 1#32
  let v782 : BitVec 32 := Scalar.muli v775 c1_i32_534
  let v783 : BitVec 32 := Scalar.addi v781 v782
  v783.toNat
def k0_off6 (d0 : Dev nD) : Fin 2 → Nat :=
  let c64_i32_539 : BitVec 32 := 64#32
  let c4_i32_2 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.muli c4_i32_2 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v792 : BitVec 32 := Scalar.muli c64_i32_539 v10
  let v793 : Index := Scalar.indexCast v792
  let c0_540 : Index := 0#32
  ![v793.toNat, 0]
def k0_off7 (d0 : Dev nD) (c0_i32_378 : BitVec 32) (c1_i32_385 : BitVec 32) : Fin 3 → Nat :=
  let c4_i32_392 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v526 : BitVec 32 := Scalar.addi v2 c0_i32_378
  let c2_i32_379 : BitVec 32 := 2#32
  let c0_i32_380 : BitVec 32 := 0#32
  let v527 : BitVec 1 := Scalar.cmpi .eq c2_i32_379 c0_i32_380
  let c1_i32_381 : BitVec 32 := 1#32
  let v528 : BitVec 32 := Scalar.select v527 c1_i32_381 c2_i32_379
  let v529 : BitVec 32 := Scalar.remsi v526 v528
  let c0_i32_383 : BitVec 32 := 0#32
  let v531 : BitVec 1 := Scalar.cmpi .slt v529 c0_i32_383
  let c0_i32_384 : BitVec 32 := 0#32
  let v532 : BitVec 1 := Scalar.cmpi .slt v528 c0_i32_384
  let v533 : BitVec 1 := Scalar.xori v531 v532
  let c0_i32_382 : BitVec 32 := 0#32
  let v530 : BitVec 1 := Scalar.cmpi .ne v529 c0_i32_382
  let v534 : BitVec 1 := Scalar.andi v533 v530
  let v535 : BitVec 32 := Scalar.addi v529 v528
  let v536 : BitVec 32 := Scalar.select v534 v535 v529
  let v548 : BitVec 32 := Scalar.muli c4_i32_392 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v537 : BitVec 32 := Scalar.addi v8 c1_i32_385
  let c4_i32_386 : BitVec 32 := 4#32
  let c0_i32_387 : BitVec 32 := 0#32
  let v538 : BitVec 1 := Scalar.cmpi .eq c4_i32_386 c0_i32_387
  let c1_i32_388 : BitVec 32 := 1#32
  let v539 : BitVec 32 := Scalar.select v538 c1_i32_388 c4_i32_386
  let v540 : BitVec 32 := Scalar.remsi v537 v539
  let c0_i32_390 : BitVec 32 := 0#32
  let v542 : BitVec 1 := Scalar.cmpi .slt v540 c0_i32_390
  let c0_i32_391 : BitVec 32 := 0#32
  let v543 : BitVec 1 := Scalar.cmpi .slt v539 c0_i32_391
  let v544 : BitVec 1 := Scalar.xori v542 v543
  let c0_i32_389 : BitVec 32 := 0#32
  let v541 : BitVec 1 := Scalar.cmpi .ne v540 c0_i32_389
  let v545 : BitVec 1 := Scalar.andi v544 v541
  let v546 : BitVec 32 := Scalar.addi v540 v539
  let v547 : BitVec 32 := Scalar.select v545 v546 v540
  let v549 : BitVec 32 := Scalar.addi v548 v547
  let c0_i32_545 : BitVec 32 := 0#32
  let c0_i32_546 : BitVec 32 := 0#32
  ![v549.toNat, 0, 0]
def k0_off7_at (r : Fin 7) : BitVec 32 × BitVec 32 :=
  if r.val < 3 then
    if r.val < 1 then
      (0#32, 1#32)
    else
      if r.val < 2 then
        (0#32, 3#32)
      else
        (1#32, 0#32)
  else
    if r.val < 5 then
      if r.val < 4 then
        (0#32, 2#32)
      else
        (1#32, 1#32)
    else
      if r.val < 6 then
        (1#32, 3#32)
      else
        (1#32, 2#32)
def k0_off8 (d0 : Dev nD) (c0_i32_378 : BitVec 32) (c1_i32_385 : BitVec 32) : Fin 3 → Nat :=
  let c4_i32_392 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v526 : BitVec 32 := Scalar.addi v2 c0_i32_378
  let c2_i32_379 : BitVec 32 := 2#32
  let c0_i32_380 : BitVec 32 := 0#32
  let v527 : BitVec 1 := Scalar.cmpi .eq c2_i32_379 c0_i32_380
  let c1_i32_381 : BitVec 32 := 1#32
  let v528 : BitVec 32 := Scalar.select v527 c1_i32_381 c2_i32_379
  let v529 : BitVec 32 := Scalar.remsi v526 v528
  let c0_i32_383 : BitVec 32 := 0#32
  let v531 : BitVec 1 := Scalar.cmpi .slt v529 c0_i32_383
  let c0_i32_384 : BitVec 32 := 0#32
  let v532 : BitVec 1 := Scalar.cmpi .slt v528 c0_i32_384
  let v533 : BitVec 1 := Scalar.xori v531 v532
  let c0_i32_382 : BitVec 32 := 0#32
  let v530 : BitVec 1 := Scalar.cmpi .ne v529 c0_i32_382
  let v534 : BitVec 1 := Scalar.andi v533 v530
  let v535 : BitVec 32 := Scalar.addi v529 v528
  let v536 : BitVec 32 := Scalar.select v534 v535 v529
  let v548 : BitVec 32 := Scalar.muli c4_i32_392 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v537 : BitVec 32 := Scalar.addi v8 c1_i32_385
  let c4_i32_386 : BitVec 32 := 4#32
  let c0_i32_387 : BitVec 32 := 0#32
  let v538 : BitVec 1 := Scalar.cmpi .eq c4_i32_386 c0_i32_387
  let c1_i32_388 : BitVec 32 := 1#32
  let v539 : BitVec 32 := Scalar.select v538 c1_i32_388 c4_i32_386
  let v540 : BitVec 32 := Scalar.remsi v537 v539
  let c0_i32_390 : BitVec 32 := 0#32
  let v542 : BitVec 1 := Scalar.cmpi .slt v540 c0_i32_390
  let c0_i32_391 : BitVec 32 := 0#32
  let v543 : BitVec 1 := Scalar.cmpi .slt v539 c0_i32_391
  let v544 : BitVec 1 := Scalar.xori v542 v543
  let c0_i32_389 : BitVec 32 := 0#32
  let v541 : BitVec 1 := Scalar.cmpi .ne v540 c0_i32_389
  let v545 : BitVec 1 := Scalar.andi v544 v541
  let v546 : BitVec 32 := Scalar.addi v540 v539
  let v547 : BitVec 32 := Scalar.select v545 v546 v540
  let v549 : BitVec 32 := Scalar.addi v548 v547
  let v807 : Index := Scalar.indexCast v549
  let c0_549 : Index := 0#32
  let c0_550 : Index := 0#32
  ![v807.toNat, 0, 0]
def k0_off8_at (r : Fin 7) : BitVec 32 × BitVec 32 :=
  if r.val < 3 then
    if r.val < 1 then
      (0#32, 1#32)
    else
      if r.val < 2 then
        (0#32, 3#32)
      else
        (1#32, 0#32)
  else
    if r.val < 5 then
      if r.val < 4 then
        (0#32, 2#32)
      else
        (1#32, 1#32)
    else
      if r.val < 6 then
        (1#32, 3#32)
      else
        (1#32, 2#32)
def k0_off9 (d0 : Dev nD) (c0_i32_378 : BitVec 32) (c1_i32_385 : BitVec 32) : Fin 2 → Nat :=
  let c64_i32_551 : BitVec 32 := 64#32
  let c4_i32_392 : BitVec 32 := 4#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v526 : BitVec 32 := Scalar.addi v2 c0_i32_378
  let c2_i32_379 : BitVec 32 := 2#32
  let c0_i32_380 : BitVec 32 := 0#32
  let v527 : BitVec 1 := Scalar.cmpi .eq c2_i32_379 c0_i32_380
  let c1_i32_381 : BitVec 32 := 1#32
  let v528 : BitVec 32 := Scalar.select v527 c1_i32_381 c2_i32_379
  let v529 : BitVec 32 := Scalar.remsi v526 v528
  let c0_i32_383 : BitVec 32 := 0#32
  let v531 : BitVec 1 := Scalar.cmpi .slt v529 c0_i32_383
  let c0_i32_384 : BitVec 32 := 0#32
  let v532 : BitVec 1 := Scalar.cmpi .slt v528 c0_i32_384
  let v533 : BitVec 1 := Scalar.xori v531 v532
  let c0_i32_382 : BitVec 32 := 0#32
  let v530 : BitVec 1 := Scalar.cmpi .ne v529 c0_i32_382
  let v534 : BitVec 1 := Scalar.andi v533 v530
  let v535 : BitVec 32 := Scalar.addi v529 v528
  let v536 : BitVec 32 := Scalar.select v534 v535 v529
  let v548 : BitVec 32 := Scalar.muli c4_i32_392 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v537 : BitVec 32 := Scalar.addi v8 c1_i32_385
  let c4_i32_386 : BitVec 32 := 4#32
  let c0_i32_387 : BitVec 32 := 0#32
  let v538 : BitVec 1 := Scalar.cmpi .eq c4_i32_386 c0_i32_387
  let c1_i32_388 : BitVec 32 := 1#32
  let v539 : BitVec 32 := Scalar.select v538 c1_i32_388 c4_i32_386
  let v540 : BitVec 32 := Scalar.remsi v537 v539
  let c0_i32_390 : BitVec 32 := 0#32
  let v542 : BitVec 1 := Scalar.cmpi .slt v540 c0_i32_390
  let c0_i32_391 : BitVec 32 := 0#32
  let v543 : BitVec 1 := Scalar.cmpi .slt v539 c0_i32_391
  let v544 : BitVec 1 := Scalar.xori v542 v543
  let c0_i32_389 : BitVec 32 := 0#32
  let v541 : BitVec 1 := Scalar.cmpi .ne v540 c0_i32_389
  let v545 : BitVec 1 := Scalar.andi v544 v541
  let v546 : BitVec 32 := Scalar.addi v540 v539
  let v547 : BitVec 32 := Scalar.select v545 v546 v540
  let v549 : BitVec 32 := Scalar.addi v548 v547
  let v811 : BitVec 32 := Scalar.muli c64_i32_551 v549
  let v812 : Index := Scalar.indexCast v811
  let c0_552 : Index := 0#32
  ![v812.toNat, 0]
def k0_off9_at (r : Fin 7) : BitVec 32 × BitVec 32 :=
  if r.val < 3 then
    if r.val < 1 then
      (0#32, 1#32)
    else
      if r.val < 2 then
        (0#32, 3#32)
      else
        (1#32, 0#32)
  else
    if r.val < 5 then
      if r.val < 4 then
        (0#32, 2#32)
      else
        (1#32, 1#32)
    else
      if r.val < 6 then
        (1#32, 3#32)
      else
        (1#32, 2#32)
abbrev stage0_0 : Fin 1 → Memref sig .tc .vmem S512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2048x512 : Shape := ⟨3, ![4, 2048, 512]⟩
abbrev S512 : Shape := ⟨1, ![512]⟩
abbrev S_ : Shape := ⟨0, ![]⟩
abbrev S2048x512 : Shape := ⟨2, ![2048, 512]⟩
abbrev S2048 : Shape := ⟨1, ![2048]⟩
abbrev S2048x1 : Shape := ⟨2, ![2048, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S512, .f32⟩
  | .hbm, ⟨2, _⟩ => ⟨S_, .f32⟩
  | .hbm, ⟨3, _⟩ => ⟨S2048x512, .f32⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x512, .f32⟩
  | .hbm, ⟨16, _⟩ => ⟨S2048x512, .f32⟩
  | .hbm, ⟨17, _⟩ => ⟨S1x512, .f32⟩
  | .hbm, ⟨18, _⟩ => ⟨S2048x512, .f32⟩
  | .hbm, ⟨19, _⟩ => ⟨S2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.SameText.lean ====
/- The kernel as printed and its idealization have one text, so they are one program. -/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The two kernels' bodies are the same, -/
theorem body_same : Cert.KernelIdeal.cc0_body (F := F) = Cert.Kernel.cc0_body (F := F) := rfl

/-- the tables that name them, -/
theorem defs₀_same : Cert.KernelIdeal.defs₀ (F := F) = Cert.Kernel.defs₀ (F := F) := by
  funext κ
  cases κ with
  | tc =>
    funext l a
    match l, a with
    | (0 : Fin 1), (t, s) => rfl
  | scScalar => rfl
  | scVector => rfl

/-- and the programs' tables. -/
theorem defs_same : Cert.KernelIdeal.defs (F := F) = Cert.Kernel.defs (F := F) :=
  congrArg (Pipeline.defs (nD := Cert.Kernel.nD) (τ := Cert.Kernel.τ) (Cert.Kernel.pcfgs (F := F))) defs₀_same

end Cert.Proof

end
-- ==== Proof.Clean.lean ====
/- The kernel body as a sequence of loops. The printed body is straight-line code; here it is written as eleven
   loops over the four blocks of a device's rows, its three peers on the y axis and its seven peers on the x and z
   axes, and the two are shown to be the same program. -/
module

public import proofs.«01_k».proof.Proof.Gen.KernelIdeal.Skeleton

@[expose] public section

noncomputable section

namespace Cert.KernelIdeal.Hand

open Cert.KernelIdeal Cert.KernelIdeal.Gen
open Idealize.ShloMosaic Idealize.SL.Sem

variable {F : FTy → Type} [FloatOps F]

/-- A program that runs `f` at each member of a list, in order. -/
def each {E : Type → Type} {ι : Type} : List ι → (ι → Prog E PUnit) → Prog E PUnit
  | [], _ => .ret ⟨⟩
  | i :: l, f => f i >>= fun _ => each l f

/-- The peers the barrier signals go to: the other three positions along y. -/
def barDev (d : Dev nD) : Fin 3 → Dev nD :=
  ![⟨k0_dev1 d, k0_dev1_lt d⟩, ⟨k0_dev2 d, k0_dev2_lt d⟩, ⟨k0_dev3 d, k0_dev3_lt d⟩]

/-- The peers the partial rows go to: the other three positions along y. -/
def rowDev (d : Dev nD) : Fin 3 → Dev nD :=
  ![⟨k0_dev11 d, k0_dev11_lt d⟩, ⟨k0_dev12 d, k0_dev12_lt d⟩, ⟨k0_dev13 d, k0_dev13_lt d⟩]

/-- The peers the second signals go to: the other seven positions in the x, z plane. -/
def xzDev (d : Dev nD) : Fin 7 → Dev nD :=
  ![⟨k0_dev4 d, k0_dev4_lt d⟩, ⟨k0_dev5 d, k0_dev5_lt d⟩, ⟨k0_dev6 d, k0_dev6_lt d⟩, ⟨k0_dev7 d, k0_dev7_lt d⟩,
    ⟨k0_dev8 d, k0_dev8_lt d⟩, ⟨k0_dev9 d, k0_dev9_lt d⟩, ⟨k0_dev10 d, k0_dev10_lt d⟩]

/-- The peers the normalised rows go to: the other seven positions in the x, z plane. -/
def bandDev (d : Dev nD) : Fin 7 → Dev nD :=
  ![⟨k0_dev14 d, k0_dev14_lt d⟩, ⟨k0_dev15 d, k0_dev15_lt d⟩, ⟨k0_dev16 d, k0_dev16_lt d⟩, ⟨k0_dev17 d, k0_dev17_lt d⟩,
    ⟨k0_dev18 d, k0_dev18_lt d⟩, ⟨k0_dev19 d, k0_dev19_lt d⟩, ⟨k0_dev20 d, k0_dev20_lt d⟩]

theorem inb4 (o : Fin 4) : ∀ a, (![o.val, 0, 0] : Fin 3 → Nat) a + S1x64x512.size a ≤ S4x64x512.size a := by
  revert o; decide
theorem inb3 (o : Fin 3) : ∀ a, (![o.val, 0, 0] : Fin 3 → Nat) a + S1x64x512.size a ≤ S3x64x512.size a := by
  revert o; decide
theorem sinb4 (o : Fin 4) : ∀ a, (![o.val] : Fin 1 → Nat) a + S1.size a ≤ S4.size a := by revert o; decide
theorem sinb3 (o : Fin 3) : ∀ a, (![o.val] : Fin 1 → Nat) a + S1.size a ≤ S3.size a := by revert o; decide
theorem packed3 (o : Fin 3) :
    (Rect.unit (s := S3x64x512) ![o.val, 0, 0] S1x64x512.size (inb3 o)).PackedRows (EltTy.packing .bf16) := by
  fin_cases o
  · exact packedbf16_S3x64x512_S1x64x512_0_0_0
  · exact packedbf16_S3x64x512_S1x64x512_1_0_0
  · exact packedbf16_S3x64x512_S1x64x512_2_0_0
theorem words3 (o : Fin 3) :
    (Rect.unit (s := S3x64x512) ![o.val, 0, 0] S1x64x512.size (inb3 o)).WholeWords (EltTy.packing .bf16) := by
  fin_cases o
  · exact wordsbf16_S3x64x512_S1x64x512_0_0_0
  · exact wordsbf16_S3x64x512_S1x64x512_1_0_0
  · exact wordsbf16_S3x64x512_S1x64x512_2_0_0

section

variable (arg0 : Memref sig .tc .hbm S1x2048x512 .f32) (harg0 : arg0.IsWhole) (arg1 : Memref sig .tc .vmem S512 .f32)
  (harg1 : arg1.IsWhole) (arg2 : Memref sig .tc .vmem S512x512 .f32) (harg2 : arg2.IsWhole)
  (arg3 : Memref sig .tc .vmem S4x64x512 .f32) (harg3 : arg3.IsWhole) (arg4 : Memref sig .tc .vmem S3x64x512 .bf16)
  (harg4 : arg4.IsWhole) (arg5 : Memref sig .tc .vmem S3x64x512 .bf16) (harg5 : arg5.IsWhole)
  (arg6 : Memref sig .tc .vmem S8x64x512 .bf16) (harg6 : arg6.IsWhole) (arg7 : DmaSems sig S4) (arg8 arg9 : DmaSems sig S3)
  (arg10 arg11 : DmaSems sig S8) (arg12 : Sems sig S_)

/-- The 64 rows of block `o` of the device's part, in its HBM argument. -/
def partM (d : Dev nD) (o : Fin 4) : Memref sig .tc .hbm S64x512 .f32 :=
  (arg0.slice (Rect.unit (s := S1x2048x512) (k0_off1 d (BitVec.ofNat 32 o.val)) S1x64x512.size (k0_off1_inb d o)) (fun _ => rfl)).squeeze
    S64x512 squeezes_S1x64x512_S64x512
/-- Slot `o` of a buffer of four blocks. -/
def slot4 (o : Fin 4) : Memref sig .tc .vmem S64x512 .f32 :=
  (arg3.slice (Rect.unit (s := S4x64x512) ![o.val, 0, 0] S1x64x512.size (inb4 o)) (fun _ => rfl)).squeeze S64x512 squeezes_S1x64x512_S64x512
/-- Slot `e` of a buffer of three blocks. -/
def slot3 (arg : Memref sig .tc .vmem S3x64x512 .bf16) (e : Fin 3) : Memref sig .tc .vmem S64x512 .bf16 :=
  (arg.slice (Rect.unit (s := S3x64x512) ![e.val, 0, 0] S1x64x512.size (inb3 e)) (fun _ => rfl)).squeeze S64x512 squeezes_S1x64x512_S64x512
/-- The device's own slot of the gathered bands. -/
def ownM (d : Dev nD) : Memref sig .tc .vmem S64x512 .bf16 :=
  (arg6.slice (Rect.unit (s := S8x64x512) (k0_off5 d) S1x64x512.size (k0_off5_inb d)) (fun _ => rfl)).squeeze S64x512 squeezes_S1x64x512_S64x512
/-- The slot of the gathered bands that x, z peer `i` fills. -/
def peerM (d : Dev nD) (i : Fin 7) : Memref sig .tc .vmem S64x512 .bf16 :=
  (arg6.slice (Rect.unit (s := S8x64x512) (k0_off7 d (k0_off7_at i).1 (k0_off7_at i).2) S1x64x512.size (k0_off7_inb d i)) (fun _ => rfl)).squeeze
    S64x512 squeezes_S1x64x512_S64x512
/-- Semaphore `o` of an array of four. -/
def sem4 (o : Fin 4) : DmaSem sig := ((arg7.slice (Rect.unit (s := S4) ![o.val] S1.size (sinb4 o))).squeeze S_ squeezes_S1_S_).sem
/-- Semaphore `e` of an array of three. -/
def sem3 (arg : DmaSems sig S3) (e : Fin 3) : DmaSem sig :=
  ((arg.slice (Rect.unit (s := S3) ![e.val] S1.size (sinb3 e))).squeeze S_ squeezes_S1_S_).sem
/-- The semaphore of an array of eight at x, z peer `i`'s number. -/
def peerSem (arg : DmaSems sig S8) (d : Dev nD) (i : Fin 7) : DmaSem sig :=
  ((arg.slice (Rect.unit (s := S8) (k0_off3 d (k0_off3_at i).1 (k0_off3_at i).2) S1.size (k0_off3_inb d i))).squeeze S_ squeezes_S1_S_).sem
/-- The semaphore of an array of eight at the device's own number. -/
def ownSem (arg : DmaSems sig S8) (d : Dev nD) : DmaSem sig :=
  ((arg.slice (Rect.unit (s := S8) (k0_off4 d) S1.size (k0_off4_inb d))).squeeze S_ squeezes_S1_S_).sem

/-- Start copying block `o` of the device's part into slot `o`. -/
def fetchOp (d : Dev nD) (o : Fin 4) : Prog (TpuEff nD τ sig (Elt F) Λ₀ .tc) PUnit :=
  Prog.lift (.enqueueDma (partM arg0 d o) (.here (slot4 arg3 o)) (.dma (sem4 arg7 o)) ((View.wordExact_bits rfl).reshape _ _)
    ((View.wordExact_bits rfl).reshape _ _) ⟨Or.inl rfl, trivial⟩)

/-- Signal the barrier of y peer `e`. -/
def barOp (d : Dev nD) (e : Fin 3) : Prog (TpuEff nD τ sig (Elt F) Λ₀ .tc) PUnit :=
  semSignalWord (barDev d e) (SemArray.scalar (d := fun a => a.elim0) (sig.barrier 0 rfl)).sem 1#32

/-- Signal the second semaphore of x, z peer `i`. -/
def xzOp (d : Dev nD) (i : Fin 7) : Prog (TpuEff nD τ sig (Elt F) Λ₀ .tc) PUnit :=
  semSignalWord (xzDev d i) arg12.sem 1#32

/-- Wait for block `e + 1`, and write it rounded to slot `e` of the send buffer. -/
def packOp (d : Dev nD) (e : Fin 3) : Prog (TpuEff nD τ sig (Elt F) Λ₀ .tc) PUnit := do
  Prog.lift (.waitDma2 (sem4 arg7 e.succ) (partM arg0 d e.succ) (slot4 arg3 e.succ) ((View.wordExact_bits rfl).reshape _ _)
    ((View.wordExact_bits rfl).reshape _ _))
  let v : Vec F S1x64x512 .f32 ← Prog.lift (.load arg3 (Rect.unit (s := S4x64x512) ![e.succ.val, 0, 0] S1x64x512.size (inb4 e.succ)).toLoadRect (View.loadsAt_vmem h_S1x64x512))
  let _w : Vec F S1x64x512 .bf16 ← Prog.lift (.load arg4 (Rect.unit (s := S3x64x512) ![e.val, 0, 0] S1x64x512.size (inb3 e)).toLoadRect (View.loadsAt_vmem h_S1x64x512))
  Prog.lift (.store arg4 (Rect.unit (s := S3x64x512) ![e.val, 0, 0] S1x64x512.size (inb3 e)) (k0_pay1 v) Finset.univ
    (View.stores_vmem h_S1x64x512 (harg4.storeExact_slice rfl _ (packed3 e)) (fun _ => rfl)) (.inl rfl))

/-- Send slot `e` of the send buffer to y peer `e`'s receive slot `e`. -/
def rowOp (d : Dev nD) (e : Fin 3) : Prog (TpuEff nD τ sig (Elt F) Λ₀ .tc) PUnit :=
  Prog.lift (.enqueueDma (slot3 arg4 e) (.remote (Dev.tc (rowDev d e)) (slot3 arg5 e) (.dma (sem3 arg8 e))) (.dma (sem3 arg9 e))
    ((harg4.wordExact_slice rfl _ (words3 e)).reshape _ _) ((harg5.wordExact_slice rfl _ (words3 e)).reshape _ _) ⟨⟨rfl, Or.inl rfl⟩, trivial⟩)

/-- Wait for block 0 of the device's own rows, and read it. -/
def ownBlock (d : Dev nD) : Prog (TpuEff nD τ sig (Elt F) Λ₀ .tc) (Vec F S1x64x512 .f32) := do
  Prog.lift (.waitDma2 (sem4 arg7 0) (partM arg0 d 0) (slot4 arg3 0) ((View.wordExact_bits rfl).reshape _ _)
    ((View.wordExact_bits rfl).reshape _ _))
  Prog.lift (.load arg3 (Rect.unit (s := S4x64x512) ![(0 : Fin 4).val, 0, 0] S1x64x512.size (inb4 0)).toLoadRect (View.loadsAt_vmem h_S1x64x512))

/-- Wait for the block that y peer sends into receive slot `e`, and read it. -/
def recvRow (e : Fin 3) : Prog (TpuEff nD τ sig (Elt F) Λ₀ .tc) (Vec F S1x64x512 .bf16) := do
  Prog.lift (.waitDma2 (sem3 arg9 e) (slot3 arg4 e) (slot3 arg5 e)
    ((harg4.wordExact_slice rfl _ (words3 e)).reshape _ _) ((harg5.wordExact_slice rfl _ (words3 e)).reshape _ _))
  Prog.lift (.load arg5 (Rect.unit (s := S3x64x512) ![e.val, 0, 0] S1x64x512.size (inb3 e)).toLoadRect (View.loadsAt_vmem h_S1x64x512))

/-- Write a band, rounded, to the device's own slot of the gathered bands. -/
def keepOp (d : Dev nD) (w : FVec F S1x64x512 .bf16) : Prog (TpuEff nD τ sig (Elt F) Λ₀ .tc) PUnit := do
  let _w : Vec F S1x64x512 .bf16 ← Prog.lift (.load arg6 (Rect.unit (s := S8x64x512) (k0_off2 d) S1x64x512.size (k0_off2_inb d)).toLoadRect (View.loadsAt_vmem h_S1x64x512))
  Prog.lift (.store arg6 (Rect.unit (s := S8x64x512) (k0_off2 d) S1x64x512.size (k0_off2_inb d)) w Finset.univ
    (View.stores_vmem h_S1x64x512 (harg6.storeExact_slice rfl _ (k0_off2_packedbf16 d)) (fun _ => rfl)) (.inl rfl))

/-- Send the device's own slot of the gathered bands to x, z peer `i`. -/
def bandOp (d : Dev nD) (i : Fin 7) : Prog (TpuEff nD τ sig (Elt F) Λ₀ .tc) PUnit :=
  Prog.lift (.enqueueDma (ownM arg6 d) (.remote (Dev.tc (bandDev d i)) (ownM arg6 d) (.dma (peerSem arg10 d i))) (.dma (ownSem arg11 d))
    ((harg6.wordExact_slice rfl _ (k0_off5_wordsbf16 d)).reshape _ _) ((harg6.wordExact_slice rfl _ (k0_off5_wordsbf16 d)).reshape _ _)
    ⟨⟨rfl, Or.inl rfl⟩, trivial⟩)

/-- Write the device's own band to its rows of the result. -/
def placeOwn (d : Dev nD) (w : FVec F S64x512 .f32) : Prog (TpuEff nD τ sig (Elt F) Λ₀ .tc) PUnit := do
  let _w : Vec F S64x512 .f32 ← Prog.lift (.load arg2 (Rect.unit (s := S512x512) (k0_off6 d) S64x512.size (k0_off6_inb d)).toLoadRect (View.loadsAt_vmem h_S64x512))
  Prog.lift (.store arg2 (Rect.unit (s := S512x512) (k0_off6 d) S64x512.size (k0_off6_inb d)) w Finset.univ (View.stores_vmem_bits_univ h_S64x512 rfl) (.inl rfl))

/-- Wait for x, z peer `i`'s band, and write it to that peer's rows of the result. -/
def placePeer (d : Dev nD) (i : Fin 7) : Prog (TpuEff nD τ sig (Elt F) Λ₀ .tc) PUnit := do
  Prog.lift (.waitDma2 (peerSem arg11 d i) (peerM arg6 d i) (peerM arg6 d i)
    ((harg6.wordExact_slice rfl _ (k0_off7_wordsbf16 d i)).reshape _ _) ((harg6.wordExact_slice rfl _ (k0_off7_wordsbf16 d i)).reshape _ _))
  let v : Vec F S1x64x512 .bf16 ← Prog.lift (.load arg6 (Rect.unit (s := S8x64x512) (k0_off8 d (k0_off8_at i).1 (k0_off8_at i).2) S1x64x512.size (k0_off8_inb d i)).toLoadRect (View.loadsAt_vmem h_S1x64x512))
  let _w : Vec F S64x512 .f32 ← Prog.lift (.load arg2 (Rect.unit (s := S512x512) (k0_off9 d (k0_off9_at i).1 (k0_off9_at i).2) S64x512.size (k0_off9_inb d i)).toLoadRect (View.loadsAt_vmem h_S64x512))
  Prog.lift (.store arg2 (Rect.unit (s := S512x512) (k0_off9 d (k0_off9_at i).1 (k0_off9_at i).2) S64x512.size (k0_off9_inb d i)) (k0_pay9 v) Finset.univ (View.stores_vmem_bits_univ h_S64x512 rfl) (.inl rfl))

/-- Wait until the block sent from slot `e` of the send buffer has left. -/
def rowLeft (e : Fin 3) : Prog (TpuEff nD τ sig (Elt F) Λ₀ .tc) PUnit :=
  Prog.lift (.waitDma2 (sem3 arg8 e) (slot3 arg5 e) (slot3 arg4 e)
    ((harg5.wordExact_slice rfl _ (words3 e)).reshape _ _) ((harg4.wordExact_slice rfl _ (words3 e)).reshape _ _))

/-- Wait until the band sent to x, z peer `i` has left. -/
def bandLeft (d : Dev nD) (i : Fin 7) : Prog (TpuEff nD τ sig (Elt F) Λ₀ .tc) PUnit :=
  Prog.lift (.waitDma2 (peerSem arg10 d i) (ownM arg6 d) (ownM arg6 d)
    ((harg6.wordExact_slice rfl _ (k0_off5_wordsbf16 d)).reshape _ _) ((harg6.wordExact_slice rfl _ (k0_off5_wordsbf16 d)).reshape _ _))

/-- The indices 0 to 6. -/
def seven : List (Fin 7) := [0, 1, 2, 3, 4, 5, 6]

/-- The kernel body as loops. -/
def loops : Prog (TpuEff nD τ sig (Elt F) Λ₀ .tc) PUnit := do
  let d : Dev nD ← Prog.lift .deviceId
  each [0, 1, 2, 3] (fetchOp arg0 arg3 arg7 d)
  each [0, 1, 2] (barOp d)
  each seven (xzOp arg12 d)
  each [0, 1, 2] (packOp arg0 arg3 arg4 harg4 arg7 d)
  semWaitWord (SemArray.scalar (d := fun a => a.elim0) (sig.barrier 0 rfl)).sem 3#32
  each [0, 1, 2] (rowOp arg4 harg4 arg5 harg5 arg8 arg9 d)
  let b : Vec F S1x64x512 .f32 ← ownBlock arg0 arg3 arg7 d
  let r0 : Vec F S1x64x512 .bf16 ← recvRow arg4 harg4 arg5 harg5 arg9 0
  let r1 : Vec F S1x64x512 .bf16 ← recvRow arg4 harg4 arg5 harg5 arg9 1
  let r2 : Vec F S1x64x512 .bf16 ← recvRow arg4 harg4 arg5 harg5 arg9 2
  let g : Vec F S512 .f32 ← Prog.lift (.load arg1 (Rect.unit (s := S512) ![0] S512.size inb_S512_S512_0).toLoadRect (View.loadsAt_vmem h_S512))
  keepOp arg6 harg6 d (k0_pay8 (k0_pay6 (k0_pay5 b) r0 r1) r2 g)
  semWaitWord arg12.sem 7#32
  each seven (bandOp arg6 harg6 arg10 arg11 d)
  placeOwn arg2 d (k0_pay7 (k0_pay6 (k0_pay5 b) r0 r1) r2 g)
  each seven (placePeer arg2 arg6 harg6 arg11 d)
  each [0, 1, 2] (rowLeft arg4 harg4 arg5 harg5 arg8)
  each seven (bandLeft arg6 harg6 arg10 d)

set_option maxRecDepth 65536 in
set_option maxHeartbeats 4000000 in
/-- The printed body is the loops. -/
theorem body_eq_loops :
    cc0_body (F := F) arg0 harg0 arg1 harg1 arg2 harg2 arg3 harg3 arg4 harg4 arg5 harg5 arg6 harg6 arg7 arg8 arg9 arg10 arg11 arg12
      = loops arg0 arg1 arg2 arg3 arg4 harg4 arg5 harg5 arg6 harg6 arg7 arg8 arg9 arg10 arg11 arg12 := by
  rw [cc0_body_eq_skeleton]
  simp only [cc0_body_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton,
    k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel,
    loops, each, seven, fetchOp, barOp, xzOp, packOp, rowOp, ownBlock, recvRow, keepOp, bandOp, placeOwn, placePeer, rowLeft, bandLeft,
    semSignalWord, semWaitWord, Prog.lift, Prog.bind_op, Prog.bind_ret, Prog.pure_eq_ret]
  rfl

end

end Cert.KernelIdeal.Hand

end
-- ==== Proof.Mesh.lean ====
/- The mesh: who a device's peers are, and where its slots lie. Device number c stands at x = c / 16,
   y = c / 4 mod 4, z = c mod 4; the devices of one y are numbered 0 to 7 by 4 x + z. -/
module

public import proofs.«01_k».proof.Proof.Clean

@[expose] public section

noncomputable section

namespace Cert.KernelIdeal.Hand

open Cert.KernelIdeal Cert.KernelIdeal.Gen
open Idealize.ShloMosaic Idealize.SL.Sem

/-- The device `e + 1` steps further along y. -/
def ypeer (c : Dev nD) (e : Fin 3) : Dev nD :=
  ⟨16 * (c.val / 16) + 4 * ((c.val / 4 % 4 + e.val + 1) % 4) + c.val % 4, by have h : c.val < 32 := c.isLt; show _ < 32; omega⟩

/-- The step along y that leads back. -/
def rev (e : Fin 3) : Fin 3 := ⟨2 - e.val, by omega⟩

/-- The step along x of the seven other positions of the x, z plane, and the step along z. -/
def stepX : Fin 7 → Nat := ![0, 0, 1, 0, 1, 1, 1]
def stepZ : Fin 7 → Nat := ![1, 3, 0, 2, 1, 3, 2]

/-- The device at the `i`-th other position of the x, z plane. -/
def xp (c : Dev nD) (i : Fin 7) : Dev nD :=
  ⟨16 * ((c.val / 16 + stepX i) % 2) + 4 * (c.val / 4 % 4) + (c.val % 4 + stepZ i) % 4, by show _ < 32; omega⟩

/-- The position that leads back. -/
def neg (i : Fin 7) : Fin 7 := (![1, 0, 2, 3, 5, 4, 6] : Fin 7 → Fin 7) i

/-- The number of a device within its x, z plane. -/
def rOf (c : Dev nD) : Fin 8 := ⟨4 * (c.val / 16) + c.val % 4, by have h : c.val < 32 := c.isLt; omega⟩

/-- The number of the `i`-th other device of the plane. -/
def rr (c : Dev nD) (i : Fin 7) : Fin 8 := rOf (xp c i)

/-- The device of number `s` in the plane of `c`. -/
def pr (c : Dev nD) (s : Fin 8) : Dev nD :=
  ⟨16 * (s.val / 4) + 4 * (c.val / 4 % 4) + s.val % 4, by have := s.isLt; show _ < 32; omega⟩

theorem barDev_eq (c : Dev nD) (e : Fin 3) : barDev c e = ypeer c e := by revert c e; decide +kernel
theorem rowDev_eq (c : Dev nD) (e : Fin 3) : rowDev c e = ypeer c e := by revert c e; decide +kernel
theorem xzDev_eq (c : Dev nD) (i : Fin 7) : xzDev c i = xp c i := by revert c i; decide +kernel
theorem bandDev_eq (c : Dev nD) (i : Fin 7) : bandDev c i = xp c i := by revert c i; decide +kernel

theorem rev_rev (e : Fin 3) : rev (rev e) = e := by revert e; decide +kernel
theorem ypeer_rev (c : Dev nD) (e : Fin 3) : ypeer (ypeer c e) (rev e) = c := by revert c e; decide +kernel
theorem ypeer_rev' (c : Dev nD) (e : Fin 3) : ypeer (ypeer c (rev e)) e = c := by revert c e; decide +kernel
theorem neg_neg' (i : Fin 7) : neg (neg i) = i := by revert i; decide +kernel
theorem xp_neg (c : Dev nD) (i : Fin 7) : xp (xp c i) (neg i) = c := by revert c i; decide +kernel
theorem rr_neg (c : Dev nD) (i : Fin 7) : rr (xp c i) (neg i) = rOf c := congrArg rOf (xp_neg c i)
theorem rr_ne (c : Dev nD) (i : Fin 7) : rr c i ≠ rOf c := by revert c i; decide +kernel
theorem rr_inj (c : Dev nD) : Function.Injective (rr c) := by
  have h : ∀ c : Dev nD, ∀ i j : Fin 7, rr c i = rr c j → i = j := by decide +kernel
  exact fun i j => h c i j
theorem rr_cover (c : Dev nD) (s : Fin 8) : s = rOf c ∨ ∃ i, s = rr c i := by revert c s; decide +kernel
theorem pr_rOf (c : Dev nD) : pr c (rOf c) = c := by revert c; decide +kernel
theorem pr_rr (c : Dev nD) (i : Fin 7) : pr c (rr c i) = xp c i := by revert c i; decide +kernel
theorem pr_xp (c : Dev nD) (i : Fin 7) : pr (xp c i) (rOf c) = c := by revert c i; decide +kernel
theorem rOf_pr (c : Dev nD) (s : Fin 8) : rOf (pr c s) = s := by revert c s; decide +kernel

/-- Stepping along y and back swaps the steps of the mesh in pairs. -/
theorem ystep_involutive : Function.Involutive fun ce : Dev nD × Fin 3 => (ypeer ce.1 ce.2, rev ce.2) :=
  fun ce => Prod.ext (ypeer_rev ce.1 ce.2) (rev_rev ce.2)
def ystep : Equiv.Perm (Dev nD × Fin 3) := ystep_involutive.toPerm

/-- Stepping in the x, z plane and back likewise. -/
theorem xzstep_involutive : Function.Involutive fun ci : Dev nD × Fin 7 => (xp ci.1 ci.2, neg ci.2) :=
  fun ci => Prod.ext (xp_neg ci.1 ci.2) (neg_neg' ci.2)
def xzstep : Equiv.Perm (Dev nD × Fin 7) := xzstep_involutive.toPerm

/-- For a fixed step along y the peers are all devices, each once. -/
def yring (e : Fin 3) : Equiv.Perm (Dev nD) :=
  ⟨fun c => ypeer c e, fun c => ypeer c (rev e), fun c => ypeer_rev c e, fun c => ypeer_rev' c e⟩

/-- For a fixed position of the plane likewise. -/
def xzring (i : Fin 7) : Equiv.Perm (Dev nD) :=
  ⟨fun c => xp c i, fun c => xp c (neg i), fun c => xp_neg c i, fun c => by
    show xp (xp c (neg i)) i = c
    have := xp_neg c (neg i); rwa [neg_neg'] at this⟩

/-- The rows of a device's part that its block `o` starts at. -/
def rowAt (c : Dev nD) (o : Fin 4) : Nat := 512 * ((c.val / 4 % 4 + o.val) % 4) + 64 * (rOf c).val

theorem off1_eq (c : Dev nD) (o : Fin 4) : k0_off1 c (BitVec.ofNat 32 o.val) = ![0, rowAt c o, 0] := by
  revert c o; decide +kernel
theorem off2_eq (c : Dev nD) : k0_off2 c = ![(rOf c).val, 0, 0] := by revert c; decide +kernel
theorem off3_eq (c : Dev nD) (i : Fin 7) : k0_off3 c (k0_off3_at i).1 (k0_off3_at i).2 = ![(rr c i).val] := by
  revert c i; decide +kernel
theorem off4_eq (c : Dev nD) : k0_off4 c = ![(rOf c).val] := by revert c; decide +kernel
theorem off5_eq (c : Dev nD) : k0_off5 c = ![(rOf c).val, 0, 0] := by revert c; decide +kernel
theorem off6_eq (c : Dev nD) : k0_off6 c = ![64 * (rOf c).val, 0] := by revert c; decide +kernel
theorem off7_eq (c : Dev nD) (i : Fin 7) : k0_off7 c (k0_off7_at i).1 (k0_off7_at i).2 = ![(rr c i).val, 0, 0] := by
  revert c i; decide +kernel
theorem off8_eq (c : Dev nD) (i : Fin 7) : k0_off8 c (k0_off8_at i).1 (k0_off8_at i).2 = ![(rr c i).val, 0, 0] := by
  revert c i; decide +kernel
theorem off9_eq (c : Dev nD) (i : Fin 7) : k0_off9 c (k0_off9_at i).1 (k0_off9_at i).2 = ![64 * (rr c i).val, 0] := by
  revert c i; decide +kernel

/-! The semaphores, by number. -/

def fetchS (o : Fin 4) : DmaSem sig := ⟨2 + o.val, by have := o.isLt; show _ < 28; omega⟩
def sentS (e : Fin 3) : DmaSem sig := ⟨6 + e.val, by have := e.isLt; show _ < 28; omega⟩
def gotS (e : Fin 3) : DmaSem sig := ⟨9 + e.val, by have := e.isLt; show _ < 28; omega⟩
def leftS (s : Fin 8) : DmaSem sig := ⟨12 + s.val, by have := s.isLt; show _ < 28; omega⟩
def bandS (s : Fin 8) : DmaSem sig := ⟨20 + s.val, by have := s.isLt; show _ < 28; omega⟩

theorem sem4_eq (o : Fin 4) : sem4 cc0_scratch4 o = fetchS o := by revert o; decide +kernel
theorem sem3_sent (e : Fin 3) : sem3 cc0_scratch5 e = sentS e := by revert e; decide +kernel
theorem sem3_got (e : Fin 3) : sem3 cc0_scratch6 e = gotS e := by revert e; decide +kernel
theorem peerSem_left (c : Dev nD) (i : Fin 7) : peerSem cc0_scratch7 c i = leftS (rr c i) := by revert c i; decide +kernel
theorem peerSem_band (c : Dev nD) (i : Fin 7) : peerSem cc0_scratch8 c i = bandS (rr c i) := by revert c i; decide +kernel
theorem ownSem_band (c : Dev nD) : ownSem cc0_scratch8 c = bandS (rOf c) := by revert c; decide +kernel

end Cert.KernelIdeal.Hand

end
-- ==== Proof.Slots.lean ====
/- Buffers of stacked blocks. A buffer of shape n x 64 x 512 is n slots of one block each; the views the kernel copies,
   loads and stores through are single slots. Here: which elements a view covers, and what it reads. -/
module

public import proofs.«01_k».proof.Proof.Mesh

@[expose] public section

noncomputable section

namespace Cert.KernelIdeal.Hand

open Cert.KernelIdeal Cert.KernelIdeal.Gen
open Idealize.ShloMosaic Idealize.SL.Sem

variable {F : FTy → Type} [FloatOps F]

/-- The shape of `n` stacked blocks. -/
abbrev stack (n : Nat) : Shape := ⟨3, ![n, 64, 512]⟩

/-- Position `y` of a block, in slot `s` of a stack. -/
def atSlot {n : Nat} (s : Fin n) (y : S1x64x512.Idx) : (stack n).Idx := fun a => match a with
  | ⟨0, _⟩ => s
  | ⟨1, _⟩ => y 1
  | ⟨2, _⟩ => y 2

/-- The position within its block of an element of a stack. -/
def inSlot {n : Nat} (j : (stack n).Idx) : S1x64x512.Idx := fun a => match a with
  | ⟨0, _⟩ => (0 : Fin 1)
  | ⟨1, _⟩ => j 1
  | ⟨2, _⟩ => j 2

/-- The slot an element of a stack lies in. -/
def slotOf {n : Nat} (j : (stack n).Idx) : Fin n := j 0

/-- The elements of one slot. -/
def slot {n : Nat} (s : Fin n) : Finset (stack n).Idx := Finset.univ.filter fun j => slotOf j = s

theorem slotOf_atSlot {n : Nat} (s : Fin n) (y : S1x64x512.Idx) : slotOf (atSlot s y) = s := rfl

theorem inSlot_atSlot {n : Nat} (s : Fin n) (y : S1x64x512.Idx) : inSlot (atSlot s y) = y := by
  funext a
  match a with
  | ⟨0, _⟩ => exact Subsingleton.elim (α := Fin 1) _ _
  | ⟨1, _⟩ => rfl
  | ⟨2, _⟩ => rfl

theorem atSlot_inSlot {n : Nat} (j : (stack n).Idx) : atSlot (slotOf j) (inSlot j) = j := by
  funext a
  match a with
  | ⟨0, _⟩ => rfl
  | ⟨1, _⟩ => rfl
  | ⟨2, _⟩ => rfl

/-- The block a stack's contents hold in slot `s`. -/
def blockAt {n : Nat} {α : Type} (f : (stack n).Idx → α) (s : Fin n) : S1x64x512.Idx → α := fun y => f (atSlot s y)

/-- The rectangle of one slot places a block's positions in that slot, -/
theorem slotRect_idx {n : Nat} (s : Fin n) {off : Fin 3 → Nat} (h : off = ![s.val, 0, 0])
    (inb : ∀ a, off a + S1x64x512.size a ≤ (stack n).size a) (y : S1x64x512.Idx) :
    (Rect.unit (s := stack n) off S1x64x512.size inb).idx y = atSlot s y := by
  subst h
  funext a
  apply Fin.ext
  match a with
  | ⟨0, _⟩ => have h : (y 0).val < 1 := (y 0).isLt; show s.val + 1 * (y 0).val = s.val; omega
  | ⟨1, _⟩ => show 0 + 1 * (y 1).val = (y 1).val; omega
  | ⟨2, _⟩ => show 0 + 1 * (y 2).val = (y 2).val; omega

/-- and covers exactly the slot. -/
theorem slotRect_set {n : Nat} (s : Fin n) {off : Fin 3 → Nat} (h : off = ![s.val, 0, 0])
    (inb : ∀ a, off a + S1x64x512.size a ≤ (stack n).size a) :
    (Rect.unit (s := stack n) off S1x64x512.size inb).set = slot s := by
  subst h
  ext j
  rw [Rect.mem_set_unit, slot, Finset.mem_filter]
  constructor
  · intro hj
    refine ⟨Finset.mem_univ _, Fin.ext ?_⟩
    have h0 : s.val ≤ (j 0).val ∧ (j 0).val < s.val + 1 := hj 0
    show (j 0).val = s.val
    omega
  · rintro ⟨-, hj⟩ a
    have h0 : (j 0).val = s.val := congrArg Fin.val hj
    match a with
    | ⟨0, _⟩ => show s.val ≤ (j 0).val ∧ (j 0).val < s.val + 1; omega
    | ⟨1, _⟩ => exact ⟨Nat.zero_le _, by have h1 : (j 1).val < 64 := (j 1).isLt; show (j 1).val < 0 + 64; omega⟩
    | ⟨2, _⟩ => exact ⟨Nat.zero_le _, by have h2 : (j 2).val < 512 := (j 2).isLt; show (j 2).val < 0 + 512; omega⟩

theorem numel_block : S64x512.numel = S1x64x512.numel := by decide
/-- A position of a 64 x 512 block, with a leading axis of size one. -/
def sq (x : S64x512.Idx) : S1x64x512.Idx := Shape.reshapeEquiv numel_block x

/-! The views of the four stacks. -/

theorem slot4_set (o : Fin 4) : (slot4 (Memref.whole cc0_scratch0) o).view.set = slot (n := 4) o := by
  refine (View.set_reshape _ _).trans ((View.set_slice_whole _ _).trans ?_)
  exact slotRect_set (n := 4) o rfl _
theorem slot3_set_send (e : Fin 3) : (slot3 (Memref.whole cc0_scratch1) e).view.set = slot (n := 3) e := by
  refine (View.set_reshape _ _).trans ((View.set_slice_whole _ _).trans ?_)
  exact slotRect_set (n := 3) e rfl _
theorem slot3_set_recv (e : Fin 3) : (slot3 (Memref.whole cc0_scratch2) e).view.set = slot (n := 3) e := by
  refine (View.set_reshape _ _).trans ((View.set_slice_whole _ _).trans ?_)
  exact slotRect_set (n := 3) e rfl _
theorem ownM_set (d : Dev nD) : (ownM (Memref.whole cc0_scratch3) d).view.set = slot (n := 8) (rOf d) := by
  refine (View.set_reshape _ _).trans ((View.set_slice_whole _ _).trans ?_)
  exact slotRect_set (n := 8) (rOf d) (off5_eq d) _
theorem peerM_set (d : Dev nD) (i : Fin 7) : (peerM (Memref.whole cc0_scratch3) d i).view.set = slot (n := 8) (rr d i) := by
  refine (View.set_reshape _ _).trans ((View.set_slice_whole _ _).trans ?_)
  exact slotRect_set (n := 8) (rr d i) (off7_eq d i) _

theorem slot4_read (o : Fin 4) (f : (cc0_scratch0 : Ref sig .tc).ty.Contents (Elt F)) :
    (slot4 (Memref.whole cc0_scratch0) o).view.read (Elt F) f = fun x => f (atSlot (n := 4) o (sq x)) :=
  funext fun x => congrArg f (slotRect_idx (n := 4) o rfl _ _)
theorem slot3_read_send (e : Fin 3) (f : (cc0_scratch1 : Ref sig .tc).ty.Contents (Elt F)) :
    (slot3 (Memref.whole cc0_scratch1) e).view.read (Elt F) f = fun x => f (atSlot (n := 3) e (sq x)) :=
  funext fun x => congrArg f (slotRect_idx (n := 3) e rfl _ _)
theorem slot3_read_recv (e : Fin 3) (f : (cc0_scratch2 : Ref sig .tc).ty.Contents (Elt F)) :
    (slot3 (Memref.whole cc0_scratch2) e).view.read (Elt F) f = fun x => f (atSlot (n := 3) e (sq x)) :=
  funext fun x => congrArg f (slotRect_idx (n := 3) e rfl _ _)
theorem ownM_read (d : Dev nD) (f : (cc0_scratch3 : Ref sig .tc).ty.Contents (Elt F)) :
    (ownM (Memref.whole cc0_scratch3) d).view.read (Elt F) f = fun x => f (atSlot (n := 8) (rOf d) (sq x)) :=
  funext fun x => congrArg f (slotRect_idx (n := 8) (rOf d) (off5_eq d) _ _)

/-- The block of the device's part that its block `o` copies. -/
def partBlk (d : Dev nD) (o : Fin 4) {α : Type} (f : S1x2048x512.Idx → α) : S1x64x512.Idx → α := fun y =>
  f ((Rect.unit (s := S1x2048x512) (k0_off1 d (BitVec.ofNat 32 o.val)) S1x64x512.size (k0_off1_inb d o)).idx y)
theorem partM_read (d : Dev nD) (o : Fin 4) (f : (main_arg0 : Ref sig .tc).ty.Contents (Elt F)) :
    (partM (Memref.whole main_arg0) d o).view.read (Elt F) f = fun x => partBlk d o f (sq x) := rfl

/-! What a copy leaves: writing a view with what the view reads of `g` leaves `g` there. -/

theorem write_read_on {κ : Kind} {sp : Space} {s : Shape} {e : EltTy} {Val : EltTy → Type} (v : View sig κ sp s e)
    (f g : v.ty.Contents Val) (w : s.Idx → Val e) (h : w = v.read Val g) : ∀ i ∈ v.set, v.write Val f w Finset.univ i = g i := by
  subst h
  intro i hi
  obtain ⟨x, -, rfl⟩ := Finset.mem_map.mp hi
  rw [View.write_emb_of_mem _ _ (Finset.mem_univ _), View.read_apply, cast_cast, cast_eq]

/-! Loads and stores of one slot. -/

/-- The views the kernel loads and stores through. -/
abbrev acc4 (o : Fin 4) : View sig .tc .vmem S1x64x512 .f32 :=
  (Memref.whole cc0_scratch0).access (Rect.unit (s := S4x64x512) ![o.val, 0, 0] S1x64x512.size (inb4 o))
abbrev accSend (e : Fin 3) : View sig .tc .vmem S1x64x512 .bf16 :=
  (Memref.whole cc0_scratch1).access (Rect.unit (s := S3x64x512) ![e.val, 0, 0] S1x64x512.size (inb3 e))
abbrev accRecv (e : Fin 3) : View sig .tc .vmem S1x64x512 .bf16 :=
  (Memref.whole cc0_scratch2).access (Rect.unit (s := S3x64x512) ![e.val, 0, 0] S1x64x512.size (inb3 e))
abbrev accKeep (d : Dev nD) : View sig .tc .vmem S1x64x512 .bf16 :=
  (Memref.whole cc0_scratch3).access (Rect.unit (s := S8x64x512) (k0_off2 d) S1x64x512.size (k0_off2_inb d))
abbrev accPeer (d : Dev nD) (i : Fin 7) : View sig .tc .vmem S1x64x512 .bf16 :=
  (Memref.whole cc0_scratch3).access
    (Rect.unit (s := S8x64x512) (k0_off8 d (k0_off8_at i).1 (k0_off8_at i).2) S1x64x512.size (k0_off8_inb d i))
abbrev accOwnOut (d : Dev nD) : View sig .tc .vmem S64x512 .f32 :=
  (Memref.whole cc0_stg1_0).access (Rect.unit (s := S512x512) (k0_off6 d) S64x512.size (k0_off6_inb d))
abbrev accPeerOut (d : Dev nD) (i : Fin 7) : View sig .tc .vmem S64x512 .f32 :=
  (Memref.whole cc0_stg1_0).access
    (Rect.unit (s := S512x512) (k0_off9 d (k0_off9_at i).1 (k0_off9_at i).2) S64x512.size (k0_off9_inb d i))

theorem acc4_set (o : Fin 4) : (acc4 o).set = slot (n := 4) o := (View.set_slice_whole _ _).trans (slotRect_set (n := 4) o rfl _)
theorem accSend_set (e : Fin 3) : (accSend e).set = slot (n := 3) e := (View.set_slice_whole _ _).trans (slotRect_set (n := 3) e rfl _)
theorem accRecv_set (e : Fin 3) : (accRecv e).set = slot (n := 3) e := (View.set_slice_whole _ _).trans (slotRect_set (n := 3) e rfl _)
theorem accKeep_set (d : Dev nD) : (accKeep d).set = slot (n := 8) (rOf d) :=
  (View.set_slice_whole _ _).trans (slotRect_set (n := 8) (rOf d) (off2_eq d) _)
theorem accPeer_set (d : Dev nD) (i : Fin 7) : (accPeer d i).set = slot (n := 8) (rr d i) :=
  (View.set_slice_whole _ _).trans (slotRect_set (n := 8) (rr d i) (off8_eq d i) _)

theorem acc4_read (o : Fin 4) (f : (cc0_scratch0 : Ref sig .tc).ty.Contents (Elt F)) :
    (acc4 o).read (Elt F) f = blockAt (n := 4) f o :=
  funext fun y => congrArg f (slotRect_idx (n := 4) o rfl _ y)
theorem accSend_read (e : Fin 3) (f : (cc0_scratch1 : Ref sig .tc).ty.Contents (Elt F)) :
    (accSend e).read (Elt F) f = blockAt (n := 3) f e :=
  funext fun y => congrArg f (slotRect_idx (n := 3) e rfl _ y)
theorem accRecv_read (e : Fin 3) (f : (cc0_scratch2 : Ref sig .tc).ty.Contents (Elt F)) :
    (accRecv e).read (Elt F) f = blockAt (n := 3) f e :=
  funext fun y => congrArg f (slotRect_idx (n := 3) e rfl _ y)
theorem accKeep_read (d : Dev nD) (f : (cc0_scratch3 : Ref sig .tc).ty.Contents (Elt F)) :
    (accKeep d).read (Elt F) f = blockAt (n := 8) f (rOf d) :=
  funext fun y => congrArg f (slotRect_idx (n := 8) (rOf d) (off2_eq d) _ y)
theorem accPeer_read (d : Dev nD) (i : Fin 7) (f : (cc0_scratch3 : Ref sig .tc).ty.Contents (Elt F)) :
    (accPeer d i).read (Elt F) f = blockAt (n := 8) f (rr d i) :=
  funext fun y => congrArg f (slotRect_idx (n := 8) (rr d i) (off8_eq d i) _ y)

/-! The result buffer: 512 rows, in eight bands of 64. -/

/-- The band a row lies in, and its position in the band. -/
def bandOf (j : S512x512.Idx) : Fin 8 := ⟨(j 0).val / 64, by have h : (j 0).val < 512 := (j 0).isLt; omega⟩
def inBand (j : S512x512.Idx) : S64x512.Idx := fun a => match a with
  | ⟨0, _⟩ => (⟨(j 0).val % 64, Nat.mod_lt _ (by decide)⟩ : Fin 64)
  | ⟨1, _⟩ => j 1
/-- Position `y` of a block, in band `s` of the result. -/
def atBand (s : Fin 8) (y : S64x512.Idx) : S512x512.Idx := fun a => match a with
  | ⟨0, _⟩ => (⟨64 * s.val + (y 0).val, by have h : (y 0).val < 64 := (y 0).isLt; have := s.isLt; omega⟩ : Fin 512)
  | ⟨1, _⟩ => y 1
/-- The elements of one band. -/
def band (s : Fin 8) : Finset S512x512.Idx := Finset.univ.filter fun j => bandOf j = s

theorem bandOf_atBand (s : Fin 8) (y : S64x512.Idx) : bandOf (atBand s y) = s := by
  have h : (y 0).val < 64 := (y 0).isLt
  apply Fin.ext
  show (64 * s.val + (y 0).val) / 64 = s.val
  omega
theorem inBand_atBand (s : Fin 8) (y : S64x512.Idx) : inBand (atBand s y) = y := by
  have h : (y 0).val < 64 := (y 0).isLt
  funext a
  match a with
  | ⟨0, _⟩ => exact Fin.ext (show (64 * s.val + (y 0).val) % 64 = (y 0).val by omega)
  | ⟨1, _⟩ => rfl
theorem atBand_inBand (j : S512x512.Idx) : atBand (bandOf j) (inBand j) = j := by
  funext a
  match a with
  | ⟨0, _⟩ => exact Fin.ext (show 64 * ((j 0).val / 64) + (j 0).val % 64 = (j 0).val by omega)
  | ⟨1, _⟩ => rfl

theorem bandRect_idx (s : Fin 8) {off : Fin 2 → Nat} (h : off = ![64 * s.val, 0])
    (inb : ∀ a, off a + S64x512.size a ≤ S512x512.size a) (y : S64x512.Idx) :
    (Rect.unit (s := S512x512) off S64x512.size inb).idx y = atBand s y := by
  subst h
  funext a
  apply Fin.ext
  match a with
  | ⟨0, _⟩ => show 64 * s.val + 1 * (y 0).val = 64 * s.val + (y 0).val; omega
  | ⟨1, _⟩ => show 0 + 1 * (y 1).val = (y 1).val; omega
theorem bandRect_set (s : Fin 8) {off : Fin 2 → Nat} (h : off = ![64 * s.val, 0])
    (inb : ∀ a, off a + S64x512.size a ≤ S512x512.size a) :
    (Rect.unit (s := S512x512) off S64x512.size inb).set = band s := by
  subst h
  ext j
  rw [Rect.mem_set_unit, band, Finset.mem_filter]
  constructor
  · intro hj
    refine ⟨Finset.mem_univ _, Fin.ext ?_⟩
    have h0 : 64 * s.val ≤ (j 0).val ∧ (j 0).val < 64 * s.val + 64 := hj 0
    show (j 0).val / 64 = s.val
    omega
  · rintro ⟨-, hj⟩ a
    have h0 : (j 0).val / 64 = s.val := congrArg Fin.val hj
    match a with
    | ⟨0, _⟩ => show 64 * s.val ≤ (j 0).val ∧ (j 0).val < 64 * s.val + 64; omega
    | ⟨1, _⟩ => exact ⟨Nat.zero_le _, by have h1 : (j 1).val < 512 := (j 1).isLt; show (j 1).val < 0 + 512; omega⟩

theorem accOwnOut_set (d : Dev nD) : (accOwnOut d).set = band (rOf d) :=
  (View.set_slice_whole _ _).trans (bandRect_set (rOf d) (off6_eq d) _)
theorem accPeerOut_set (d : Dev nD) (i : Fin 7) : (accPeerOut d i).set = band (rr d i) :=
  (View.set_slice_whole _ _).trans (bandRect_set (rr d i) (off9_eq d i) _)
theorem accOwnOut_read (d : Dev nD) (f : (cc0_stg1_0 : Ref sig .tc).ty.Contents (Elt F)) :
    (accOwnOut d).read (Elt F) f = fun y => f (atBand (rOf d) y) :=
  funext fun y => congrArg f (bandRect_idx (rOf d) (off6_eq d) _ y)
theorem accPeerOut_read (d : Dev nD) (i : Fin 7) (f : (cc0_stg1_0 : Ref sig .tc).ty.Contents (Elt F)) :
    (accPeerOut d i).read (Elt F) f = fun y => f (atBand (rr d i) y) :=
  funext fun y => congrArg f (bandRect_idx (rr d i) (off9_eq d i) _ y)

/-! The slots of a stack, and the bands of the result, are disjoint and cover it. -/

theorem slot_disjoint {n : Nat} (s t : Fin n) (h : s ≠ t) : Disjoint (slot s) (slot t) :=
  Finset.disjoint_left.mpr fun _ hs ht => h ((Finset.mem_filter.mp hs).2.symm.trans (Finset.mem_filter.mp ht).2)
theorem mem_slot {n : Nat} (j : (stack n).Idx) : j ∈ slot (slotOf j) := Finset.mem_filter.mpr ⟨Finset.mem_univ _, rfl⟩
theorem band_disjoint (s t : Fin 8) (h : s ≠ t) : Disjoint (band s) (band t) :=
  Finset.disjoint_left.mpr fun _ hs ht => h ((Finset.mem_filter.mp hs).2.symm.trans (Finset.mem_filter.mp ht).2)
theorem mem_band (j : S512x512.Idx) : j ∈ band (bandOf j) := Finset.mem_filter.mpr ⟨Finset.mem_univ _, rfl⟩

end Cert.KernelIdeal.Hand

end
-- ==== Proof.Contents.lean ====
/- What every buffer of every device holds: the blocks a device copies in, what it sends along y, what it receives,
   the band of normalised rows it computes, and the result, as functions of the arguments. -/
module

public import proofs.«01_k».proof.Proof.Slots

@[expose] public section

noncomputable section

namespace Cert.KernelIdeal.Hand

open Cert.KernelIdeal Cert.KernelIdeal.Gen
open Idealize.ShloMosaic Idealize.SL.Sem

variable {F : FTy → Type} [FloatOps F]
variable (m : (ℓ : Loc nD τ sig) → Buf (Elt F) ℓ)

/-- Device `c`'s part: its block of `partial`. -/
def partV (c : Dev nD) : S1x2048x512.Idx → Elt F .f32 := m (c.tc.loc main_arg0)
/-- Device `c`'s `gamma`. -/
def gammaV (c : Dev nD) : S512.Idx → Elt F .f32 := m (c.tc.loc main_arg1)

/-- The four blocks of rows that device `c` copies in: its own number's rows of each quarter, its own quarter first. -/
def lbufV (c : Dev nD) : (stack 4).Idx → Elt F .f32 := fun j => partBlk c (slotOf j) (partV m c) (inSlot j)
/-- What it sends: the three other quarters' blocks, rounded. -/
def sbufV (c : Dev nD) : (stack 3).Idx → Elt F .bf16 := fun j => k0_pay1 (blockAt (lbufV m c) (slotOf j).succ) (inSlot j)
/-- What it receives: slot `e` of the peer for which it is peer `e`. -/
def rbufV (c : Dev nD) : (stack 3).Idx → Elt F .bf16 := fun j => sbufV m (ypeer c (rev (slotOf j))) j

/-- The normalised band, of the device's own block and the three received, -/
def normedV (c : Dev nD) : S64x512.Idx → Elt F .f32 :=
  k0_pay7 (k0_pay6 (k0_pay5 (blockAt (lbufV m c) 0)) (blockAt (rbufV m c) 0) (blockAt (rbufV m c) 1)) (blockAt (rbufV m c) 2) (gammaV m c)
/-- and rounded, as it is sent. -/
def bandV (c : Dev nD) : S1x64x512.Idx → Elt F .bf16 :=
  k0_pay8 (k0_pay6 (k0_pay5 (blockAt (lbufV m c) 0)) (blockAt (rbufV m c) 0) (blockAt (rbufV m c) 1)) (blockAt (rbufV m c) 2) (gammaV m c)
/-- The gathered bands: slot `s` is the band of the device of number `s` in the plane. -/
def gbufV (c : Dev nD) : (stack 8).Idx → Elt F .bf16 := fun j => bandV m (pr c (slotOf j)) (inSlot j)
/-- The result: the device's own band, and the seven gathered ones. -/
def outV (c : Dev nD) : S512x512.Idx → Elt F .f32 := fun j =>
  if bandOf j = rOf c then normedV m c (inBand j) else k0_pay9 (blockAt (gbufV m c) (bandOf j)) (inBand j)

theorem blockAt_lbufV (c : Dev nD) (o : Fin 4) : blockAt (lbufV m c) o = partBlk c o (partV m c) :=
  funext fun y => by unfold blockAt lbufV; rw [slotOf_atSlot, inSlot_atSlot]
theorem blockAt_sbufV (c : Dev nD) (e : Fin 3) : blockAt (sbufV m c) e = k0_pay1 (blockAt (lbufV m c) e.succ) :=
  funext fun y => by unfold blockAt sbufV; rw [slotOf_atSlot, inSlot_atSlot]; rfl
theorem blockAt_rbufV (c : Dev nD) (e : Fin 3) : blockAt (rbufV m c) e = blockAt (sbufV m (ypeer c (rev e))) e := rfl
theorem blockAt_gbufV (c : Dev nD) (s : Fin 8) : blockAt (gbufV m c) s = bandV m (pr c s) :=
  funext fun y => by unfold blockAt gbufV; rw [slotOf_atSlot, inSlot_atSlot]

/-- A device's sent blocks, seen from the peer that receives them. -/
theorem rbufV_ypeer (c : Dev nD) (e : Fin 3) (y : S1x64x512.Idx) : rbufV m (ypeer c e) (atSlot e y) = sbufV m c (atSlot e y) := by
  unfold rbufV; rw [slotOf_atSlot, ypeer_rev]
/-- A device's band, seen from every device of its plane. -/
theorem gbufV_xp (c : Dev nD) (i : Fin 7) (y : S1x64x512.Idx) : gbufV m (xp c i) (atSlot (rOf c) y) = gbufV m c (atSlot (rOf c) y) := by
  unfold gbufV; rw [slotOf_atSlot, pr_xp, pr_rOf]

/-- Every copy's source and destination views read the same. -/
theorem fetch_read (c : Dev nD) (o : Fin 4) :
    (partM (Memref.whole main_arg0) c o).view.read (Elt F) (partV m c) = (slot4 (Memref.whole cc0_scratch0) o).view.read (Elt F) (lbufV m c) := by
  rw [slot4_read, partM_read]
  exact funext fun x => (congrFun (blockAt_lbufV m c o) (sq x)).symm
theorem row_read (c : Dev nD) (e : Fin 3) :
    (slot3 (Memref.whole cc0_scratch1) e).view.read (Elt F) (sbufV m c)
      = (slot3 (Memref.whole cc0_scratch2) e).view.read (Elt F) (rbufV m (ypeer c e)) := by
  rw [slot3_read_send, slot3_read_recv]
  exact funext fun x => (rbufV_ypeer m c e (sq x)).symm
theorem band_read (c : Dev nD) (i : Fin 7) :
    (ownM (Memref.whole cc0_scratch3) c).view.read (Elt F) (gbufV m c)
      = (ownM (Memref.whole cc0_scratch3) c).view.read (Elt F) (gbufV m (xp c i)) := by
  rw [ownM_read, ownM_read]
  exact funext fun x => (gbufV_xp m c i (sq x)).symm

theorem out_own (c : Dev nD) : (accOwnOut c).read (Elt F) (outV m c) = normedV m c := by
  rw [accOwnOut_read]
  funext y
  unfold outV
  rw [bandOf_atBand, inBand_atBand, if_pos rfl]
theorem out_peer (c : Dev nD) (i : Fin 7) : (accPeerOut c i).read (Elt F) (outV m c) = k0_pay9 (blockAt (gbufV m c) (rr c i)) := by
  rw [accPeerOut_read]
  funext y
  unfold outV
  rw [bandOf_atBand, inBand_atBand, if_neg (rr_ne c i)]

end Cert.KernelIdeal.Hand

end
-- ==== Proof.Schedule.lean ====
/- The protocol. Every semaphore of every device is a cell with one round: who pays into it, how much, and what the
   payment hands to the cell's owner. Then what each device owes when it starts, and the order of the cells by which
   no device waits for one that waits for it. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.SparseCore.Stream
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- What a semaphore is for. `bar`: the three y peers are ready. `xz`: the seven x, z peers are ready. `fetch o`: block
    `o` is copied in. `sent e`, `got e`: a block has left for y peer `e`, one has come into receive slot `e`. `left s`,
    `came s`: the band has left for the device of number `s`, its band has come. -/
inductive Role where
  | bar | xz | fetch (o : Fin 4) | sent (e : Fin 3) | got (e : Fin 3) | left (s : Fin 8) | came (s : Fin 8)
  deriving DecidableEq

/-- The semaphore of a role. -/
def Role.sem : Role → SemLoc sig
  | .bar => .reg (1 : Fin 2)
  | .xz => .reg (0 : Fin 2)
  | .fetch o => .dma (fetchS o)
  | .sent e => .dma (sentS e)
  | .got e => .dma (gotS e)
  | .left s => .dma (leftS s)
  | .came s => .dma (bandS s)

/-- The roles by number: the barrier, the second semaphore, and the transfers' in the order of their semaphores. -/
def roleAt (k : Fin 28) : Role :=
  if k.val = 0 then .bar else if k.val = 1 then .xz
  else if h : k.val < 6 then .fetch ⟨k.val - 2, by omega⟩
  else if h : k.val < 9 then .sent ⟨k.val - 6, by omega⟩
  else if h : k.val < 12 then .got ⟨k.val - 9, by omega⟩
  else if h : k.val < 20 then .left ⟨k.val - 12, by omega⟩
  else .came ⟨k.val - 20, by omega⟩
def Role.num : Role → Fin 28
  | .bar => 0
  | .xz => 1
  | .fetch o => ⟨2 + o.val, by omega⟩
  | .sent e => ⟨6 + e.val, by omega⟩
  | .got e => ⟨9 + e.val, by omega⟩
  | .left s => ⟨12 + s.val, by omega⟩
  | .came s => ⟨20 + s.val, by omega⟩

theorem roleAt_num (ρ : Role) : roleAt ρ.num = ρ := by
  cases ρ with
  | bar => rfl
  | xz => rfl
  | fetch o => revert o; decide
  | sent e => revert e; decide
  | got e => revert e; decide
  | left s => revert s; decide
  | came s => revert s; decide
theorem num_roleAt (k : Fin 28) : (roleAt k).num = k := by revert k; decide
def roleEquiv : Fin 28 ≃ Role := ⟨roleAt, Role.num, num_roleAt, roleAt_num⟩
instance : Fintype Role := Fintype.ofEquiv _ roleEquiv

/-- The role of a semaphore; two are the launch's own. -/
def roleOf : SemLoc sig → Option Role
  | .reg k => if k.val = 0 then some .xz else some .bar
  | .dma j => if j.val < 2 then none else some (roleAt ⟨j.val, j.isLt⟩)

theorem roleOf_sem (ρ : Role) : roleOf ρ.sem = some ρ := by
  cases ρ with
  | bar => rfl
  | xz => rfl
  | fetch o => revert o; decide
  | sent e => revert e; decide
  | got e => revert e; decide
  | left s => revert s; decide
  | came s => revert s; decide

theorem sem_inj : Function.Injective Role.sem := fun a b h => by
  have h' := congrArg roleOf h
  rw [roleOf_sem, roleOf_sem] at h'
  exact Option.some.inj h'

/-- Device `c`'s cell of a role. -/
abbrev cell (c : Dev nD) (ρ : Role) : GSem nD τ sig := ((c : Thread nD τ), ρ.sem)

theorem cell_inj {c c' : Dev nD} {ρ ρ' : Role} (h : cell c ρ = cell c' ρ') : c = c' ∧ ρ = ρ' :=
  ⟨congrArg (fun g : GSem nD τ sig => g.1.1) h, sem_inj (congrArg Prod.snd h)⟩

/-! ## What is handed over -/

abbrev lAt (c : Dev nD) (o : Fin 4) (f : (stack 4).Idx → Elt F .f32) : sProp 𝕄 := ((c : Thread nD τ).loc cc0_scratch0) ↦[slot (n := 4) o]{fullShare} f
abbrev sAt (c : Dev nD) (e : Fin 3) (f : (stack 3).Idx → Elt F .bf16) : sProp 𝕄 := ((c : Thread nD τ).loc cc0_scratch1) ↦[slot (n := 3) e]{fullShare} f
abbrev rAt (c : Dev nD) (e : Fin 3) (f : (stack 3).Idx → Elt F .bf16) : sProp 𝕄 := ((c : Thread nD τ).loc cc0_scratch2) ↦[slot (n := 3) e]{fullShare} f
abbrev gAt (c : Dev nD) (s : Fin 8) (q : PosShare TreeShare) (f : (stack 8).Idx → Elt F .bf16) : sProp 𝕄 :=
  ((c : Thread nD τ).loc cc0_scratch3) ↦[slot (n := 8) s]{q} f
abbrev oAt (c : Dev nD) (s : Fin 8) (f : S512x512.Idx → Elt F .f32) : sProp 𝕄 := ((c : Thread nD τ).loc cc0_stg1_0) ↦[band s]{fullShare} f

/-- The share of the part lent to the copy of block `o`, and that of the band lent to the send to number `s`. -/
def quarter (o : Fin 4) : PosShare TreeShare := pieceOf fullShare 4 (by decide) o
def eighth (s : Fin 8) : PosShare TreeShare := pieceOf fullShare 8 (by decide) s

abbrev partSet (c : Dev nD) (o : Fin 4) : Finset (Idx ((c : Thread nD τ).loc main_arg0)) := (partM (Memref.whole main_arg0) c o).view.set
abbrev pAt (c : Dev nD) (o : Fin 4) : sProp 𝕄 := ((c : Thread nD τ).loc main_arg0) ↦[partSet c o]{quarter o} (partV m c)

/-- A duty's number as a step along y. -/
def asStep (d : Fin 7) : Fin 3 := ⟨d.val % 3, Nat.mod_lt _ (by decide)⟩
/-- A step's number as a duty. -/
def asDuty (e : Fin 3) : Fin 7 := ⟨e.val, by omega⟩
theorem asStep_asDuty (e : Fin 3) : asStep (asDuty e) = e := by revert e; decide

/-- What duty `d` of device `c`'s cell hands to `c`. -/
def payOf (c : Dev nD) (ρ : Role) (d : Fin 7) : sProp 𝕄 :=
  match ρ with
  | .bar => iprop(∃ f, rAt (ypeer c (asStep d)) (asStep d) f)
  | .xz => iprop(∃ f, gAt (xp c d) (rOf c) fullShare f)
  | .fetch o => iprop(lAt c o (lbufV m c) ∗ pAt m c o)
  | .sent e => sAt c e (sbufV m c)
  | .got e => rAt c e (rbufV m c)
  | .left s => gAt c (rOf c) (eighth s) (gbufV m c)
  | .came s => gAt c s fullShare (gbufV m c)

/-- The duties of device `c`'s cell; the device's own number is used by none. -/
def dutiesOf (c : Dev nD) : Role → Finset (Fin 7)
  | .bar => {0, 1, 2}
  | .xz => Finset.univ
  | .fetch _ => {0}
  | .sent _ => {0}
  | .got _ => {0}
  | .left s => if s = rOf c then ∅ else {0}
  | .came s => if s = rOf c then ∅ else {0}

/-- The credits of one block copied in, one rounded block sent along y, one band sent in the plane. -/
def nFetch : Nat := (slot4 (Memref.whole cc0_scratch0) 0).view.dmaCredit
def nRow : Nat := (slot3 (Memref.whole cc0_scratch2) 0).view.dmaCredit
def nBand : Nat := (ownM (Memref.whole cc0_scratch3) 0).view.dmaCredit

def unitsOf : Role → Nat
  | .bar => 1
  | .xz => 1
  | .fetch _ => nFetch
  | .sent _ => nRow
  | .got _ => nRow
  | .left _ => nBand
  | .came _ => nBand

theorem unitsOf_pos (ρ : Role) : 0 < unitsOf ρ := by
  cases ρ <;> first | exact Nat.one_pos | exact View.dmaCredit_pos _ (by decide)

/-- The schedule: one round per cell. -/
def rd : Rounds.Schedule (GSem nD τ sig) (Fin 7) 𝕄 where
  duties g r := if r = 0 ∧ g.1.2 = .tc then (roleOf g.2).elim ∅ (dutiesOf g.1.1) else ∅
  unitless _ := False
  amount g _ _ := (roleOf g.2).elim 1 unitsOf
  payload g _ d := (roleOf g.2).elim iprop(emp) fun ρ => payOf m g.1.1 ρ d
  amount_pos g _ _ _ := by
    cases roleOf g.2 with
    | none => exact Nat.one_pos
    | some ρ => exact unitsOf_pos ρ

instance payOf_storable (c : Dev nD) (ρ : Role) (d : Fin 7) : BI.Storable (upEmb : UEmb _ 𝕄) (payOf m c ρ d) := by
  cases ρ <;> (unfold payOf; infer_instance)
instance rd_payload_storable (g : GSem nD τ sig) (r : ℕ) (d : Fin 7) : BI.Storable (upEmb : UEmb _ 𝕄) ((rd (F := F) m).payload g r d) := by
  show BI.Storable upEmb ((roleOf g.2).elim iprop(emp) fun ρ => payOf m g.1.1 ρ d)
  cases roleOf g.2 with
  | none => show BI.Storable upEmb iprop(emp); infer_instance
  | some ρ => exact payOf_storable m g.1.1 ρ d

theorem duties_cell (c : Dev nD) (ρ : Role) : (rd (F := F) m).duties (cell c ρ) 0 = dutiesOf c ρ := by
  show (if 0 = 0 ∧ (Proc.tc : Proc τ) = .tc then (roleOf ρ.sem).elim ∅ (dutiesOf c) else ∅) = _
  rw [if_pos ⟨rfl, rfl⟩, roleOf_sem]; rfl
theorem duties_later (g : GSem nD τ sig) : ∀ r, 1 ≤ r → (rd (F := F) m).duties g r = ∅ :=
  fun r hr => if_neg fun h => by have := h.1; omega
theorem amount_cell (c : Dev nD) (ρ : Role) (d : Fin 7) : (rd (F := F) m).amount (cell c ρ) 0 d = unitsOf ρ := by
  show (roleOf ρ.sem).elim 1 unitsOf = _
  rw [roleOf_sem]; rfl
theorem payload_cell (c : Dev nD) (ρ : Role) (d : Fin 7) : (rd (F := F) m).payload (cell c ρ) 0 d = payOf m c ρ d := by
  show ((roleOf ρ.sem).elim iprop(emp) fun ρ => payOf m c ρ d) = _
  rw [roleOf_sem]; rfl
theorem expect_cell (c : Dev nD) (ρ : Role) : (rd (F := F) m).expect (cell c ρ) 0 = (dutiesOf c ρ).card * unitsOf ρ := by
  unfold Schedule.expect Schedule.amountOf
  rw [duties_cell, Finset.sum_congr rfl fun d _ => amount_cell m c ρ d, Finset.sum_const, smul_eq_mul]
theorem rest_cell (c : Dev nD) (ρ : Role) :
    bigSep ((rd (F := F) m).duties (cell c ρ) 0 \ ∅) (fun d => (rd (F := F) m).payload (cell c ρ) 0 d) = bigSep (dutiesOf c ρ) (payOf m c ρ) := by
  rw [Finset.sdiff_empty, duties_cell]
  exact bigSep_congr fun d _ => payload_cell m c ρ d

/-- A role with one duty. -/
theorem rest_one (c : Dev nD) (ρ : Role) (h : dutiesOf c ρ = {0}) :
    bigSep ((rd (F := F) m).duties (cell c ρ) 0 \ ∅) (fun d => (rd (F := F) m).payload (cell c ρ) 0 d) = payOf m c ρ 0 := by
  rw [rest_cell, h, bigSep_singleton]
theorem expect_one (c : Dev nD) (ρ : Role) (h : dutiesOf c ρ = {0}) : (rd (F := F) m).expect (cell c ρ) 0 = unitsOf ρ := by
  rw [expect_cell, h, Finset.card_singleton, Nat.one_mul]
theorem duties_left (c : Dev nD) (i : Fin 7) : dutiesOf c (.left (rr c i)) = {0} := if_neg (rr_ne c i)
theorem duties_came (c : Dev nD) (i : Fin 7) : dutiesOf c (.came (rr c i)) = {0} := if_neg (rr_ne c i)
/-- The band of `c` is duty of the cell of every other device of the plane. -/
theorem duties_came_xp (c : Dev nD) (i : Fin 7) : dutiesOf (xp c i) (.came (rOf c)) = {0} := if_neg fun h => rr_ne c i h.symm
theorem duties_own (c : Dev nD) (s : Fin 8) (h : s = rOf c) : dutiesOf c (.left s) = ∅ ∧ dutiesOf c (.came s) = ∅ := ⟨if_pos h, if_pos h⟩

/-! ## What is owed -/

/-- Units of `n` owed to a list of cells. -/
def due {ι : Type} (g : ι → GSem nD τ sig) (n : Nat) (l : List ι) : CellTallies nD τ sig Unit := (l.map fun i => tallyAt (g i) () n).sum
theorem due_nil {ι : Type} (g : ι → GSem nD τ sig) (n : Nat) : due g n [] = 0 := rfl
theorem due_cons {ι : Type} (g : ι → GSem nD τ sig) (n : Nat) (i : ι) (l : List ι) : due g n (i :: l) = tallyAt (g i) () n + due g n l :=
  List.sum_cons

theorem due_pos {ι : Type} {g : ι → GSem nD τ sig} {n : Nat} {l : List ι} {x : GSem nD τ sig} {u : Unit} (h : 0 < due g n l x u) :
    ∃ i, x = g i := by
  induction l with
  | nil => rw [due_nil] at h; exact absurd h (Nat.lt_irrefl 0)
  | cons i l ih =>
    rw [due_cons, Pi.add_apply, Finsupp.add_apply, tallyAt_apply] at h
    by_cases hx : x = g i ∧ u = ()
    · exact ⟨i, hx.1⟩
    · rw [if_neg hx, Nat.zero_add] at h; exact ih h

abbrev steps3 : List (Fin 3) := [0, 1, 2]

/-- The barrier units, the second semaphores' units, the rows and the bands that device `c` owes. -/
def dueBar (c : Dev nD) (l : List (Fin 3)) : CellTallies nD τ sig Unit := due (fun e => cell (ypeer c e) .bar) 1 l
def dueXz (c : Dev nD) (l : List (Fin 7)) : CellTallies nD τ sig Unit := due (fun i => cell (xp c i) .xz) 1 l
def dueRow (c : Dev nD) (l : List (Fin 3)) : CellTallies nD τ sig Unit := due (fun e => cell (ypeer c e) (.got e)) nRow l
def dueBand (c : Dev nD) (l : List (Fin 7)) : CellTallies nD τ sig Unit := due (fun i => cell (xp c i) (.came (rOf c))) nBand l

/-- What device `c` owes when it starts. -/
def O₀ (c : Dev nD) : CellTallies nD τ sig Unit := dueBand c seven + dueRow c steps3 + dueXz c seven + dueBar c steps3

def L (g : GSem nD τ sig) : Finset Unit := if g.1.2 = .tc then {()} else ∅
/-- The order of the cells: signals, then rows, then bands; a device's own copies and its sends' ends before all. -/
def levelOf : Role → ℕ
  | .bar => 1
  | .xz => 1
  | .got _ => 2
  | .came _ => 3
  | _ => 0
def lv (g : GSem nD τ sig) (_ : Unit) : ℕ := (roleOf g.2).elim 0 levelOf

theorem lv_cell (c : Dev nD) (ρ : Role) (u : Unit) : lv (cell c ρ) u = levelOf ρ := by
  show (roleOf ρ.sem).elim 0 levelOf = _
  rw [roleOf_sem]; rfl
theorem L_of_ne (g : GSem nD τ sig) (h : g.1.2 ≠ .tc) : L g = ∅ := if_neg h
theorem L_tc (c : Dev nD) (sm : SemLoc sig) : L ((c : Thread nD τ), sm) = {()} := if_pos rfl

/-- A device may wait on a cell when everything it owes is to cells further on. -/
theorem mayWait (c : Dev nD) (sm : SemLoc sig) (O : CellTallies nD τ sig Unit)
    (h : ∀ g u, 0 < O g u → ∃ p ρ, g = cell p ρ ∧ lv ((c : Thread nD τ), sm) () < levelOf ρ) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by obtain ⟨p, ρ, rfl, -⟩ := h g u hg; rw [L_tc]; exact Finset.mem_singleton_self _)
    (fun p hp => by rw [Finset.mem_singleton.mp hp])
    (fun g u hg => by obtain ⟨p, ρ, rfl, h'⟩ := h g u hg; rw [lv_cell]; exact h')

theorem dueBar_pos {c : Dev nD} {l : List (Fin 3)} {g : GSem nD τ sig} {u : Unit} (h : 0 < dueBar c l g u) : ∃ p ρ, g = cell p ρ ∧ 1 ≤ levelOf ρ := by
  obtain ⟨i, hi⟩ := due_pos h; exact ⟨_, _, hi, le_rfl⟩
theorem dueXz_pos {c : Dev nD} {l : List (Fin 7)} {g : GSem nD τ sig} {u : Unit} (h : 0 < dueXz c l g u) : ∃ p ρ, g = cell p ρ ∧ 1 ≤ levelOf ρ := by
  obtain ⟨i, hi⟩ := due_pos h; exact ⟨_, _, hi, le_rfl⟩
theorem dueRow_pos {c : Dev nD} {l : List (Fin 3)} {g : GSem nD τ sig} {u : Unit} (h : 0 < dueRow c l g u) : ∃ p ρ, g = cell p ρ ∧ 2 ≤ levelOf ρ := by
  obtain ⟨i, hi⟩ := due_pos h; exact ⟨_, _, hi, le_rfl⟩
theorem dueBand_pos {c : Dev nD} {l : List (Fin 7)} {g : GSem nD τ sig} {u : Unit} (h : 0 < dueBand c l g u) : ∃ p ρ, g = cell p ρ ∧ 3 ≤ levelOf ρ := by
  obtain ⟨i, hi⟩ := due_pos h; exact ⟨_, _, hi, le_rfl⟩

theorem pos_add {A B : CellTallies nD τ sig Unit} {g : GSem nD τ sig} {u : Unit} (h : 0 < (A + B) g u) : 0 < A g u ∨ 0 < B g u := by
  rw [Pi.add_apply, Finsupp.add_apply] at h; omega

theorem O₀_pos {c : Dev nD} {g : GSem nD τ sig} {u : Unit} (h : 0 < O₀ c g u) : ∃ p ρ, g = cell p ρ ∧ 1 ≤ levelOf ρ := by
  rcases pos_add h with h | h
  · rcases pos_add h with h | h
    · rcases pos_add h with h | h
      · obtain ⟨p, ρ, hg, hl⟩ := dueBand_pos h; exact ⟨p, ρ, hg, by omega⟩
      · obtain ⟨p, ρ, hg, hl⟩ := dueRow_pos h; exact ⟨p, ρ, hg, by omega⟩
    · exact dueXz_pos h
  · exact dueBar_pos h

/-- Owing rows and bands, a device may wait on a cell before the rows; -/
theorem mayWait_rows (c : Dev nD) (ρ : Role) (hρ : levelOf ρ < 2) (l : List (Fin 3)) :
    (levAts L lv : sProp 𝕄) ⊢ MayWait (c : Thread nD τ) ρ.sem () (dueBand c seven + dueRow c l) :=
  mayWait c ρ.sem _ fun g u hg => by
    rw [lv_cell]
    rcases pos_add hg with h | h
    · obtain ⟨p, ρ', hg, hl⟩ := dueBand_pos h; exact ⟨p, ρ', hg, by omega⟩
    · obtain ⟨p, ρ', hg, hl⟩ := dueRow_pos h; exact ⟨p, ρ', hg, by omega⟩
/-- owing bands, on a cell before the bands. -/
theorem mayWait_bands (c : Dev nD) (ρ : Role) (hρ : levelOf ρ < 3) (l : List (Fin 7)) :
    (levAts L lv : sProp 𝕄) ⊢ MayWait (c : Thread nD τ) ρ.sem () (dueBand c l) :=
  mayWait c ρ.sem _ fun g u hg => by
    rw [lv_cell]
    obtain ⟨p, ρ', hg, hl⟩ := dueBand_pos hg; exact ⟨p, ρ', hg, by omega⟩

end Cert.KernelIdeal.Hand

end
-- ==== Proof.Steps.lean ====
/- Rules for the loops and for each of the kernel's waits and transfers, stated once for every device and index. -/
module

public import proofs.«01_k».proof.Proof.Schedule

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program on device `c`'s core. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What every device knows throughout: each cell's invariant, that its round is open, and the order of the cells. -/
def ctx (K : Dev nD × Role → ℕ) : sProp 𝕄 :=
  iprop((bigSep Finset.univ fun x : Dev nD × Role => cellInv ER (rd m) (K x) (cell x.1 x.2))
    ∗ (bigSep Finset.univ fun x : Dev nD × Role => reached ER (cell x.1 x.2) 0) ∗ levAts L lv)

instance ctx_persistent (K : Dev nD × Role → ℕ) : BI.Persistent (ctx m K) := by unfold ctx; infer_instance

variable (K : Dev nD × Role → ℕ)

theorem ctx_inv (c : Dev nD) (ρ : Role) : ctx m K ⊢ cellInv ER (rd m) (K (c, ρ)) (cell c ρ) := by
  unfold ctx
  iintro ⟨H, -, -⟩
  have h : (bigSep Finset.univ fun x : Dev nD × Role => (cellInv ER (rd m) (K x) (cell x.1 x.2) : sProp 𝕄)) ⊢ cellInv ER (rd m) (K (c, ρ)) (cell c ρ) := bigSep_elim (Finset.mem_univ (c, ρ))
  iapply h
  iexact H
theorem ctx_reached (c : Dev nD) (ρ : Role) : ctx m K ⊢ reached ER (cell c ρ) 0 := by
  unfold ctx
  iintro ⟨-, H, -⟩
  have h : (bigSep Finset.univ fun x : Dev nD × Role => (reached ER (cell x.1 x.2) 0 : sProp 𝕄)) ⊢ reached ER (cell c ρ) 0 := bigSep_elim (Finset.mem_univ (c, ρ))
  iapply h
  iexact H
theorem ctx_lev : ctx m K ⊢ levAts L lv := by
  unfold ctx
  iintro ⟨-, -, H⟩
  iexact H

/-- What device `c` owes, whatever it has waited for. -/
def owesE (c : Dev nD) (O : CellTallies nD τ sig Unit) : sProp 𝕄 := iprop(∃ W, owes (c : Thread nD τ) O W)

/-! ## Loops -/

/-- A resource for each member of a list. -/
def sepL {ι : Type} (A : ι → sProp 𝕄) : List ι → sProp 𝕄
  | [] => iprop(emp)
  | i :: l => iprop(A i ∗ sepL A l)

theorem sepL_eq {ι : Type} [DecidableEq ι] (A : ι → sProp 𝕄) (l : List ι) (h : l.Nodup) : bigSep l.toFinset A = sepL A l := by
  induction l with
  | nil => exact bigSep_empty
  | cons i l ih =>
    have h' := List.nodup_cons.mp h
    rw [List.toFinset_cons, bigSep_insert (fun hi => h'.1 (List.mem_toFinset.mp hi)), ih h'.2]; rfl
/-- A loop whose every step takes `A i` and leaves `B i`, moving a state `S` from the indices still to come to the
    next, takes all the `A i` and leaves all the `B i`. `R` is known throughout. -/
theorem wp_each {ι β : Type} (c : Dev nD) (f : ι → Prog (TpuEff nD τ sig (Elt F) Λ₀ .tc) PUnit) (R : sProp 𝕄) [BI.Persistent R]
    (S : List ι → sProp 𝕄) (A B : ι → sProp 𝕄)
    (step : ∀ (i : ι) (l : List ι) (k : Prog (TpuEff nD τ sig (Elt F) Λ₀ .tc) β) (Q : β → sProp 𝕄),
      iprop(R ∗ S (i :: l) ∗ A i ∗ ((S l ∗ B i) -∗ run c k Q)) ⊢ run c (f i >>= fun _ => k) Q)
    (l : List ι) (k : Prog (TpuEff nD τ sig (Elt F) Λ₀ .tc) β) (Q : β → sProp 𝕄) :
    iprop(R ∗ S l ∗ sepL A l ∗ ((S [] ∗ sepL B l) -∗ run c k Q)) ⊢ run c (each l f >>= fun _ => k) Q := by
  induction l with
  | nil =>
    show _ ⊢ run c k Q
    unfold sepL
    iintro ⟨#HR, HS, -, Hk⟩
    iapply Hk
    isplitl [HS]; · iexact HS
    iempintro
  | cons i l ih =>
    show _ ⊢ run c ((f i >>= fun _ => each l f) >>= fun _ => k) Q
    rw [Prog.bind_assoc]
    unfold sepL
    iintro ⟨#HR, HS, ⟨HA, HAl⟩, Hk⟩
    iapply (step i l (each l f >>= fun _ => k) Q)
    isplitr; · iexact HR
    isplitl [HS]; · iexact HS
    isplitl [HA]; · iexact HA
    iintro ⟨HS, HB⟩
    iapply ih
    isplitr; · iexact HR
    isplitl [HS]; · iexact HS
    isplitl [HAl]; · iexact HAl
    iintro ⟨HS, HBl⟩
    iapply Hk
    isplitl [HS]; · iexact HS
    isplitl [HB]; · iexact HB
    iexact HBl

/-- The same over every index of a type, each once. -/
theorem wp_each_all {ι β : Type} [DecidableEq ι] [Fintype ι] (c : Dev nD) (f : ι → Prog (TpuEff nD τ sig (Elt F) Λ₀ .tc) PUnit) (R : sProp 𝕄) [BI.Persistent R]
    (S : List ι → sProp 𝕄) (A B : ι → sProp 𝕄)
    (step : ∀ (i : ι) (l : List ι) (k : Prog (TpuEff nD τ sig (Elt F) Λ₀ .tc) β) (Q : β → sProp 𝕄),
      iprop(R ∗ S (i :: l) ∗ A i ∗ ((S l ∗ B i) -∗ run c k Q)) ⊢ run c (f i >>= fun _ => k) Q)
    (l : List ι) (hl : l.Nodup) (hu : l.toFinset = Finset.univ) (k : Prog (TpuEff nD τ sig (Elt F) Λ₀ .tc) β) (Q : β → sProp 𝕄) :
    iprop(R ∗ S l ∗ bigSep Finset.univ A ∗ ((S [] ∗ bigSep Finset.univ B) -∗ run c k Q)) ⊢ run c (each l f >>= fun _ => k) Q := by
  rw [← hu, sepL_eq A l hl, sepL_eq B l hl]
  exact wp_each c f R S A B step l k Q

/-! ## Waits -/

/-- Waiting for all of a cell's round: everything its duties hand over comes, and the semaphore stands at zero. -/
theorem wp_wait_role {α : Type} (c : Dev nD) (ρ : Role) {w : TpuEff nD τ sig (Elt F) Λ₀ .tc PUnit} {n : Nat}
    (hw : ∀ Z : PUnit → sProp 𝕄, wpE (defs₀ (F := F)) 𝒱₀ (c : Thread nD τ) none Set.univ w Z = waitSpec (c : Thread nD τ) Set.univ ρ.sem n Z)
    (hn : n = (dutiesOf c ρ).card * unitsOf ρ) (O : CellTallies nD τ sig Unit)
    (hO : (levAts L lv : sProp 𝕄) ⊢ MayWait (c : Thread nD τ) ρ.sem () O)
    (k : PUnit → Prog (TpuEff nD τ sig (Elt F) Λ₀ .tc) α) (Q : α → sProp 𝕄) :
    iprop(ctx m K ∗ cred (tallyAt (cell c ρ) () n) ∗ owesE c O ∗ atPos ER (cell c ρ) 0 ∅ 0
        ∗ ((owesE c O ∗ semVal (cell c ρ) 0 ∗ bigSep (dutiesOf c ρ) (payOf m c ρ)) -∗ run c (k ⟨⟩) Q))
      ⊢ run c (.op w k) Q := by
  have h1 : ctx m K ⊢ levAts L lv := @ctx_lev F _ m K
  have hO' : ctx m K ⊢ MayWait (c : Thread nD τ) ρ.sem () O := h1.trans hO
  unfold owesE
  iintro ⟨#Hctx, Hc, ⟨%W, HO⟩, Hat, Hk⟩
  ihave #HI := (ctx_inv m K c ρ) $$ Hctx
  iapply (Rounds.wp_wait_rest_token 𝒱₀ ER (rd m) (c : Thread nD τ) none (κ := K (c, ρ)) hw (Set.mem_univ _) () (O := O) (W := W)
      (R := 0) (m := 0) (T := ∅) (by rw [Nat.zero_add, expect_cell, hn])) $$ [Hc HO Hat]
  · isplitr; · iexact HI
    isplitl [Hc]; · iexact Hc
    isplitl [HO]; · iexact HO
    isplitr
    · iapply hO'; iexact Hctx
    iexact Hat
  iintro ⟨HO, Hat, -, Hpay⟩
  ihave Hp := (Entails.of_eq (rest_cell m c ρ)) $$ Hpay
  imod (Rounds.cell_close ER (rd m) (Set.mem_univ (K (c, ρ))) (fun h => h) (R := 0 + 1) (duties_later m (cell c ρ))) $$ [Hat] with Hz
  · isplitr; · iexact HI
    iexact Hat
  iapply Hk
  isplitl [HO]; · iexists _; iexact HO
  isplitl [Hz]; · iexact Hz
  iexact Hp

/-- The same of a cell with one duty. -/
theorem wp_wait_one {α : Type} (c : Dev nD) (ρ : Role) {w : TpuEff nD τ sig (Elt F) Λ₀ .tc PUnit} {n : Nat}
    (hw : ∀ Z : PUnit → sProp 𝕄, wpE (defs₀ (F := F)) 𝒱₀ (c : Thread nD τ) none Set.univ w Z = waitSpec (c : Thread nD τ) Set.univ ρ.sem n Z)
    (hn : n = unitsOf ρ) (hd : dutiesOf c ρ = {0}) (P : sProp 𝕄) (hP : payOf m c ρ 0 = P) (O : CellTallies nD τ sig Unit)
    (hO : (levAts L lv : sProp 𝕄) ⊢ MayWait (c : Thread nD τ) ρ.sem () O)
    (k : PUnit → Prog (TpuEff nD τ sig (Elt F) Λ₀ .tc) α) (Q : α → sProp 𝕄) :
    iprop(ctx m K ∗ cred (tallyAt (cell c ρ) () n) ∗ owesE c O ∗ atPos ER (cell c ρ) 0 ∅ 0
        ∗ ((owesE c O ∗ semVal (cell c ρ) 0 ∗ P) -∗ run c (k ⟨⟩) Q))
      ⊢ run c (.op w k) Q := by
  have h := wp_wait_role m K c ρ hw (by rw [hd, Finset.card_singleton, Nat.one_mul]; exact hn) O hO k Q
  rw [hd, bigSep_singleton, hP] at h
  exact h

/-- A cell no duty pays into stands at zero. -/
theorem close_unused (c : Dev nD) (ρ : Role) (hd : dutiesOf c ρ = ∅) :
    iprop(ctx m K ∗ atPos ER (cell c ρ) 0 ∅ 0) ⊢ |={Set.univ}=> (semVal (cell c ρ) 0 : sProp 𝕄) := by
  iintro ⟨#Hctx, Hat⟩
  ihave #HI := (ctx_inv m K c ρ) $$ Hctx
  iapply (Rounds.cell_close ER (rd m) (Set.mem_univ (K (c, ρ))) (fun h => h) (R := 0) (fun r _ => by
    rcases Nat.eq_zero_or_pos r with rfl | hr
    · rw [duties_cell, hd]
    · exact duties_later m (cell c ρ) r hr))
  isplitr; · iexact HI
  iexact Hat

/-! ## Transfers -/

/-- A view written with what it reads of `g` holds `g`. -/
theorem lands {sp : Space} {s : Shape} {e : EltTy} (c : Dev nD) (v : Memref sig .tc sp s e) (f g : Buf (Elt F) (v.view.loc (c : Thread nD τ)))
    (w : s.Idx → Elt F e) (h : w = v.view.read (Elt F) g) :
    ((v.view.loc (c : Thread nD τ)) ↦[v.view.set]{fullShare} (v.view.write (Elt F) f w Finset.univ) : sProp 𝕄)
      = ((v.view.loc (c : Thread nD τ)) ↦[v.view.set]{fullShare} g) :=
  pointsTo_congr (write_read_on v.view f g w h)

theorem slot4_pt (c : Dev nD) (o : Fin 4) (f : (stack 4).Idx → Elt F .f32) :
    (((slot4 (Memref.whole cc0_scratch0) o).view.loc (c : Thread nD τ)) ↦[(slot4 (Memref.whole cc0_scratch0) o).view.set]{fullShare} f : sProp 𝕄) = lAt c o f :=
  congrArg (fun I => (((c : Thread nD τ).loc cc0_scratch0) ↦[I]{fullShare} f : sProp 𝕄)) (slot4_set o)
theorem slot3_send_pt (c : Dev nD) (e : Fin 3) (f : (stack 3).Idx → Elt F .bf16) :
    (((slot3 (Memref.whole cc0_scratch1) e).view.loc (c : Thread nD τ)) ↦[(slot3 (Memref.whole cc0_scratch1) e).view.set]{fullShare} f : sProp 𝕄) = sAt c e f :=
  congrArg (fun I => (((c : Thread nD τ).loc cc0_scratch1) ↦[I]{fullShare} f : sProp 𝕄)) (slot3_set_send e)
theorem slot3_recv_pt (c : Dev nD) (e : Fin 3) (f : (stack 3).Idx → Elt F .bf16) :
    (((slot3 (Memref.whole cc0_scratch2) e).view.loc (c : Thread nD τ)) ↦[(slot3 (Memref.whole cc0_scratch2) e).view.set]{fullShare} f : sProp 𝕄) = rAt c e f :=
  congrArg (fun I => (((c : Thread nD τ).loc cc0_scratch2) ↦[I]{fullShare} f : sProp 𝕄)) (slot3_set_recv e)
theorem ownM_pt (c d : Dev nD) (q : PosShare TreeShare) (f : (stack 8).Idx → Elt F .bf16) :
    (((ownM (Memref.whole cc0_scratch3) d).view.loc (c : Thread nD τ)) ↦[(ownM (Memref.whole cc0_scratch3) d).view.set]{q} f : sProp 𝕄) = gAt c (rOf d) q f :=
  congrArg (fun I => (((c : Thread nD τ).loc cc0_scratch3) ↦[I]{q} f : sProp 𝕄)) (ownM_set d)

theorem acc4_pt (c : Dev nD) (o : Fin 4) (f : (stack 4).Idx → Elt F .f32) :
    (((acc4 o).loc (c : Thread nD τ)) ↦[(acc4 o).set]{fullShare} f : sProp 𝕄) = lAt c o f :=
  congrArg (fun I => (((c : Thread nD τ).loc cc0_scratch0) ↦[I]{fullShare} f : sProp 𝕄)) (acc4_set o)
theorem accSend_pt (c : Dev nD) (e : Fin 3) (f : (stack 3).Idx → Elt F .bf16) :
    (((accSend e).loc (c : Thread nD τ)) ↦[(accSend e).set]{fullShare} f : sProp 𝕄) = sAt c e f :=
  congrArg (fun I => (((c : Thread nD τ).loc cc0_scratch1) ↦[I]{fullShare} f : sProp 𝕄)) (accSend_set e)
theorem accRecv_pt (c : Dev nD) (e : Fin 3) (f : (stack 3).Idx → Elt F .bf16) :
    (((accRecv e).loc (c : Thread nD τ)) ↦[(accRecv e).set]{fullShare} f : sProp 𝕄) = rAt c e f :=
  congrArg (fun I => (((c : Thread nD τ).loc cc0_scratch2) ↦[I]{fullShare} f : sProp 𝕄)) (accRecv_set e)
theorem accKeep_pt (c : Dev nD) (f : (stack 8).Idx → Elt F .bf16) :
    (((accKeep c).loc (c : Thread nD τ)) ↦[(accKeep c).set]{fullShare} f : sProp 𝕄) = gAt c (rOf c) fullShare f :=
  congrArg (fun I => (((c : Thread nD τ).loc cc0_scratch3) ↦[I]{fullShare} f : sProp 𝕄)) (accKeep_set c)
theorem accPeer_pt (c : Dev nD) (i : Fin 7) (f : (stack 8).Idx → Elt F .bf16) :
    (((accPeer c i).loc (c : Thread nD τ)) ↦[(accPeer c i).set]{fullShare} f : sProp 𝕄) = gAt c (rr c i) fullShare f :=
  congrArg (fun I => (((c : Thread nD τ).loc cc0_scratch3) ↦[I]{fullShare} f : sProp 𝕄)) (accPeer_set c i)
theorem accOwnOut_pt (c : Dev nD) (f : S512x512.Idx → Elt F .f32) :
    (((accOwnOut c).loc (c : Thread nD τ)) ↦[(accOwnOut c).set]{fullShare} f : sProp 𝕄) = oAt c (rOf c) f :=
  congrArg (fun I => (((c : Thread nD τ).loc cc0_stg1_0) ↦[I]{fullShare} f : sProp 𝕄)) (accOwnOut_set c)
theorem accPeerOut_pt (c : Dev nD) (i : Fin 7) (f : S512x512.Idx → Elt F .f32) :
    (((accPeerOut c i).loc (c : Thread nD τ)) ↦[(accPeerOut c i).set]{fullShare} f : sProp 𝕄) = oAt c (rr c i) f :=
  congrArg (fun I => (((c : Thread nD τ).loc cc0_stg1_0) ↦[I]{fullShare} f : sProp 𝕄)) (accPeerOut_set c i)

theorem nFetch_eq (o : Fin 4) : (slot4 (Memref.whole cc0_scratch0) o).view.dmaCredit = nFetch := rfl
theorem nRow_send (e : Fin 3) : (slot3 (Memref.whole cc0_scratch1) e).view.dmaCredit = nRow := rfl
theorem nRow_recv (e : Fin 3) : (slot3 (Memref.whole cc0_scratch2) e).view.dmaCredit = nRow := rfl
theorem nBand_own (d : Dev nD) : (ownM (Memref.whole cc0_scratch3) d).view.dmaCredit = nBand := rfl
theorem nBand_peer (d : Dev nD) (i : Fin 7) : (peerM (Memref.whole cc0_scratch3) d i).view.dmaCredit = nBand := rfl

/-- A copy within device `c` that ends on its cell `ρ`. -/
theorem wp_copy_cell {α : Type} (c : Dev nD) (k : PUnit → Prog (TpuEff nD τ sig (Elt F) Λ₀ .tc) α) (Q : α → sProp 𝕄)
    {s : Shape} {e : EltTy} (ρ : Role) {sm : SemLoc sig} (hsm : sm = ρ.sem) (hρ : dutiesOf c ρ = {0})
    (src : Memref sig .tc .hbm s e) (dst : Memref sig .tc .vmem s e) (q : PosShare TreeShare)
    (fs : Buf (Elt F) (src.view.loc (c : Thread nD τ))) (f g : Buf (Elt F) (dst.view.loc (c : Thread nD τ)))
    (hrd : src.view.read (Elt F) fs = dst.view.read (Elt F) g) (hN : dst.view.amount ρ.sem = unitsOf ρ)
    (hpay : iprop(((dst.view.loc (c : Thread nD τ)) ↦[dst.view.set]{fullShare} g) ∗ ((src.view.loc (c : Thread nD τ)) ↦[src.view.set]{q} fs)) ⊢ payOf m c ρ 0)
    {hs : src.view.WordExact} {hd : dst.view.WordExact} {ht : DmaTarget.Typed (nD := nD) .hbm sm (.here (p := (.tc : Proc τ)) dst)} :
    iprop(ctx m K ∗ ((src.view.loc (c : Thread nD τ)) ↦[src.view.set]{q} fs) ∗ ((dst.view.loc (c : Thread nD τ)) ↦[dst.view.set]{fullShare} f)
        ∗ dutyTok ER (cell c ρ) 0 0 ∗ (cred (tallyAt (cell c ρ) () (unitsOf ρ)) -∗ run c (k ⟨⟩) Q))
      ⊢ run c (.op (.enqueueDma src (.here dst) sm hs hd ht) k) Q := by
  subst hsm
  iintro ⟨#Hctx, Hp, Hl, Ht, Hk⟩
  ihave #HI := (ctx_inv m K c ρ) $$ Hctx
  ihave #Hr := (ctx_reached m K c ρ) $$ Hctx
  have h1 : (0 : Fin 7) ∈ (rd m).duties (cell c ρ) 0 := by rw [duties_cell, hρ]; exact Finset.mem_singleton_self _
  have h2 := (sep_mono_left (Entails.of_eq (lands c dst f g _ hrd))).trans (hpay.trans (Entails.of_eq (payload_cell m c ρ 0).symm))
  iapply (Rounds.wp_copy_pointsTo 𝒱₀ ER (rd m) (c : Thread nD τ) none (sem := ρ.sem) (κ := K (c, ρ)) (r := 0) (d := 0) (fs := fs) (fd := f)
      h1 () (unitsOf ρ) hN (amount_cell m c ρ 0) h2) $$ [Hp Hl Ht]
  · isplitr; · iexact HI
    isplitl [Hp]; · iexact Hp
    isplitl [Hl]; · iexact Hl
    isplitl [Ht]; · iexact Ht
    iexact Hr
  iexact Hk

/-- A send from device `c` to device `p`: it ends on `c`'s cell `ρ₁` and on `p`'s cell `ρ₂`, which `c` owed. -/
theorem wp_send_cell {α : Type} (c : Dev nD) (k : PUnit → Prog (TpuEff nD τ sig (Elt F) Λ₀ .tc) α) (Q : α → sProp 𝕄)
    {s : Shape} {e : EltTy} (p : Dev nD) (ρ₁ ρ₂ : Role) {n : Dev nD} (hn : n = p) {sm₁ sm₂ : SemLoc sig}
    (hsm₁ : sm₁ = ρ₁.sem) (hsm₂ : sm₂ = ρ₂.sem) (hρ₁ : dutiesOf c ρ₁ = {0}) (hρ₂ : dutiesOf p ρ₂ = {0})
    (src dst : Memref sig .tc .vmem s e) (q : PosShare TreeShare)
    (fs : Buf (Elt F) (src.view.loc (c : Thread nD τ))) (f g : Buf (Elt F) (dst.view.loc (p : Thread nD τ)))
    (hrd : src.view.read (Elt F) fs = dst.view.read (Elt F) g) (hN : dst.view.amount ρ₂.sem = unitsOf ρ₂) (hN' : unitsOf ρ₁ = unitsOf ρ₂)
    (hpay₁ : ((src.view.loc (c : Thread nD τ)) ↦[src.view.set]{q} fs : sProp 𝕄) ⊢ payOf m c ρ₁ 0)
    (hpay₂ : ((dst.view.loc (p : Thread nD τ)) ↦[dst.view.set]{fullShare} g : sProp 𝕄) ⊢ payOf m p ρ₂ 0)
    {O O' : CellTallies nD τ sig Unit} (hO : O' = O + tallyAt (cell p ρ₂) () (unitsOf ρ₂))
    {hsc : dst.view.ref.isScScratch = false} {hs : src.view.WordExact} {hd : dst.view.WordExact}
    {ht : DmaTarget.Typed (p := (.tc : Proc τ)) .vmem sm₂ (.remote (Dev.tc n) dst sm₁ hsc)} :
    iprop(ctx m K ∗ ((src.view.loc (c : Thread nD τ)) ↦[src.view.set]{q} fs) ∗ ((dst.view.loc (p : Thread nD τ)) ↦[dst.view.set]{fullShare} f)
        ∗ owesE c O' ∗ dutyTok ER (cell c ρ₁) 0 0 ∗ dutyTok ER (cell p ρ₂) 0 0
        ∗ ((cred (tallyAt (cell c ρ₁) () (unitsOf ρ₁)) ∗ owesE c O) -∗ run c (k ⟨⟩) Q))
      ⊢ run c (.op (.enqueueDma src (.remote (Dev.tc n) dst sm₁ hsc) sm₂ hs hd ht) k) Q := by
  subst hn hsm₁ hsm₂
  unfold owesE
  iintro ⟨#Hctx, Hs, Hd, ⟨%W, HO⟩, Ht₁, Ht₂, Hk⟩
  ihave #HI₁ := (ctx_inv m K c ρ₁) $$ Hctx
  ihave #Hr₁ := (ctx_reached m K c ρ₁) $$ Hctx
  ihave #HI₂ := (ctx_inv m K n ρ₂) $$ Hctx
  ihave #Hr₂ := (ctx_reached m K n ρ₂) $$ Hctx
  have h1 : (0 : Fin 7) ∈ (rd m).duties (cell c ρ₁) 0 := by rw [duties_cell, hρ₁]; exact Finset.mem_singleton_self _
  have h2 : (0 : Fin 7) ∈ (rd m).duties (cell n ρ₂) 0 := by rw [duties_cell, hρ₂]; exact Finset.mem_singleton_self _
  have h3 := hpay₁.trans (Entails.of_eq (payload_cell m c ρ₁ 0).symm)
  have h4 := (Entails.of_eq (lands n dst f g _ hrd)).trans (hpay₂.trans (Entails.of_eq (payload_cell m n ρ₂ 0).symm))
  iapply (Rounds.wp_send_pointsTo 𝒱₀ ER (rd m) (c : Thread nD τ) none (c' := (n : Thread nD τ)) (src := src) (dst := dst) (sem := ρ₂.sem) (fs := fs) (fd := f)
      (κ₁ := K (c, ρ₁)) (κ₂ := K (n, ρ₂)) (r₁ := 0) (r₂ := 0) (d₁ := 0) (d₂ := 0)
      h1 h2 () () (unitsOf ρ₂) hN ((amount_cell m c ρ₁ 0).trans hN') (amount_cell m n ρ₂ 0) O hO h3 h4 (by routes)) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · rw [hN']; iexact Hc
  iexists _; iexact HO

/-- A signal to device `p`'s cell `ρ`, paying duty `d`, which `c` owed. -/
theorem wp_signal_cell {α : Type} (c : Dev nD) (k : PUnit → Prog (TpuEff nD τ sig (Elt F) Λ₀ .tc) α) (Q : α → sProp 𝕄)
    (p : Dev nD) (ρ : Role) (d : Fin 7) {n : Dev nD} (hn : n = p) {sm : Sem sig} (hsm : SemLoc.reg sm = ρ.sem)
    (hd : d ∈ dutiesOf p ρ) (hu : unitsOf ρ = 1) {O O' : CellTallies nD τ sig Unit} (hO : O' = O + tallyAt (cell p ρ) () 1) :
    iprop(ctx m K ∗ payOf m p ρ d ∗ owesE c O' ∗ dutyTok ER (cell p ρ) 0 d ∗ (owesE c O -∗ run c (k ⟨⟩) Q))
      ⊢ run c (semSignalWord n sm 1#32 >>= k) Q := by
  subst hn
  unfold owesE
  iintro ⟨#Hctx, Hp, ⟨%W, HO⟩, Ht, Hk⟩
  ihave #HI := (ctx_inv m K n ρ) $$ Hctx
  ihave #Hr := (ctx_reached m K n ρ) $$ Hctx
  simp only [semSignalWord, Prog.lift, Prog.bind_op, Prog.bind_ret]
  have h1 : d ∈ (rd m).duties ((n : Thread nD τ), SemLoc.reg sm) 0 := by rw [hsm, duties_cell]; exact hd
  have h2 : (rd m).amount ((n : Thread nD τ), SemLoc.reg sm) 0 d = 1 := by rw [hsm, amount_cell, hu]
  have h3 : O' = O + tallyAt ((n : Thread nD τ), SemLoc.reg sm) () 1 := by rw [hsm]; exact hO
  iapply (Rounds.wp_signal 𝒱₀ ER (rd m) (c : Thread nD τ) none (dst := (n : Thread nD τ)) (sem := sm) (κ := K (n, ρ)) (r := 0) (d := d)
      h1 h2 () O h3) $$ [Hp HO Ht]
  · rw [hsm]
    isplitr; · iexact HI
    isplitl [HO]; · iexact HO
    isplitl [Ht]; · iexact Ht
    isplitl [Hp]; · rw [payload_cell]; iexact Hp
    iexact Hr
  iintro HO
  iapply Hk
  iexists _; iexact HO

/-! ## Loads and stores -/

/-- A load of the elements that `P` owns at `f` reads what the access reads of `f`. -/
theorem wp_load_at {α : Type} (c : Dev nD) {s : Shape} {e : EltTy} {mr : Memref sig .tc .vmem s e} {r : Rect s} (P : sProp 𝕄)
    (f : Buf (Elt F) ((mr.access r).loc (c : Thread nD τ))) (w : r.shape.Idx → Elt F e)
    (hP : (((mr.access r).loc (c : Thread nD τ)) ↦[(mr.access r).set]{fullShare} f : sProp 𝕄) = P) (hw : (mr.access r).read (Elt F) f = w)
    {hl : mr.view.LoadsAt r.toLoadRect} (k : (r.shape.Idx → Elt F e) → Prog (TpuEff nD τ sig (Elt F) Λ₀ .tc) α) (Q : α → sProp 𝕄) :
    iprop(P ∗ (P -∗ run c (k w) Q)) ⊢ run c (.op (.load mr r.toLoadRect hl) k) Q := by
  subst hP hw
  iintro ⟨HP, Hk⟩
  iapply (wp_load_rect 𝒱₀ (c : Thread nD τ) none Set.univ (m := mr) (r := r) (Finset.Subset.refl _)) $$ HP
  iexact Hk

/-- A load of the elements that `P` owns, whatever they hold. -/
theorem wp_load_any {α : Type} (c : Dev nD) {s : Shape} {e : EltTy} {mr : Memref sig .tc .vmem s e} {r : Rect s} (P : sProp 𝕄)
    (f : Buf (Elt F) ((mr.access r).loc (c : Thread nD τ)))
    (hP : (((mr.access r).loc (c : Thread nD τ)) ↦[(mr.access r).set]{fullShare} f : sProp 𝕄) = P)
    {hl : mr.view.LoadsAt r.toLoadRect} (k : Prog (TpuEff nD τ sig (Elt F) Λ₀ .tc) α) (Q : α → sProp 𝕄) :
    iprop(P ∗ (P -∗ run c k Q)) ⊢ run c (.op (.load mr r.toLoadRect hl) (fun _ => k)) Q :=
  wp_load_at c P f _ hP rfl (fun _ => k) Q

/-- A store of what the access reads of `g` leaves `g` on the elements it owns. -/
theorem wp_store_at {α : Type} (c : Dev nD) {s : Shape} {e : EltTy} {mr : Memref sig .tc .vmem s e} {r : Rect s} (P P' : sProp 𝕄)
    (f g : Buf (Elt F) ((mr.access r).loc (c : Thread nD τ))) (w : r.shape.Idx → Elt F e)
    (hP : (((mr.access r).loc (c : Thread nD τ)) ↦[(mr.access r).set]{fullShare} f : sProp 𝕄) = P)
    (hP' : (((mr.access r).loc (c : Thread nD τ)) ↦[(mr.access r).set]{fullShare} g : sProp 𝕄) = P')
    (hw : w = (mr.access r).read (Elt F) g)
    {hx : (mr.access r).Stores Finset.univ} {hm : Finset.univ = Finset.univ ∨ ∀ a, r.stride a = 1}
    (k : PUnit → Prog (TpuEff nD τ sig (Elt F) Λ₀ .tc) α) (Q : α → sProp 𝕄) :
    iprop(P ∗ (P' -∗ run c (k ⟨⟩) Q)) ⊢ run c (.op (.store mr r w Finset.univ hx hm) k) Q := by
  subst hP hP'
  iintro ⟨HP, Hk⟩
  iapply (wp_store 𝒱₀ (c : Thread nD τ) none Set.univ (m := mr) (r := r) (Mk := Finset.univ) (S := (mr.access r).set) (Finset.Subset.refl _)) $$ HP
  iintro HP
  iapply Hk
  iapply (Entails.of_eq (pointsTo_congr (write_read_on (mr.access r) f g w hw)))
  iexact HP

/-! The loads and stores of the kernel: a block of a stack, a band of the result. -/

section Accesses

variable {α : Type} (c : Dev nD)

theorem load_l (o : Fin 4) (f : (stack 4).Idx → Elt F .f32) {hl : (Memref.whole cc0_scratch0).view.LoadsAt (Rect.unit (s := S4x64x512) ![o.val, 0, 0] S1x64x512.size (inb4 o)).toLoadRect}
    (k : (S1x64x512.Idx → Elt F .f32) → Prog (TpuEff nD τ sig (Elt F) Λ₀ .tc) α) (Q : α → sProp 𝕄) :
    iprop(lAt c o f ∗ (lAt c o f -∗ run c (k (blockAt f o)) Q)) ⊢ run c (.op (.load (Memref.whole cc0_scratch0) (Rect.unit (s := S4x64x512) ![o.val, 0, 0] S1x64x512.size (inb4 o)).toLoadRect hl) k) Q :=
  wp_load_at c (mr := Memref.whole cc0_scratch0) (r := (Rect.unit (s := S4x64x512) ![o.val, 0, 0] S1x64x512.size (inb4 o))) (lAt c o f) f _ (acc4_pt c o f) (acc4_read o f) k Q
theorem load_s (e : Fin 3) (f : (stack 3).Idx → Elt F .bf16) {hl : (Memref.whole cc0_scratch1).view.LoadsAt (Rect.unit (s := S3x64x512) ![e.val, 0, 0] S1x64x512.size (inb3 e)).toLoadRect}
    (k : (S1x64x512.Idx → Elt F .bf16) → Prog (TpuEff nD τ sig (Elt F) Λ₀ .tc) α) (Q : α → sProp 𝕄) :
    iprop(sAt c e f ∗ (sAt c e f -∗ run c (k (blockAt f e)) Q)) ⊢ run c (.op (.load (Memref.whole cc0_scratch1) (Rect.unit (s := S3x64x512) ![e.val, 0, 0] S1x64x512.size (inb3 e)).toLoadRect hl) k) Q :=
  wp_load_at c (mr := Memref.whole cc0_scratch1) (r := (Rect.unit (s := S3x64x512) ![e.val, 0, 0] S1x64x512.size (inb3 e))) (sAt c e f) f _ (accSend_pt c e f) (accSend_read e f) k Q
theorem load_r (e : Fin 3) (f : (stack 3).Idx → Elt F .bf16) {hl : (Memref.whole cc0_scratch2).view.LoadsAt (Rect.unit (s := S3x64x512) ![e.val, 0, 0] S1x64x512.size (inb3 e)).toLoadRect}
    (k : (S1x64x512.Idx → Elt F .bf16) → Prog (TpuEff nD τ sig (Elt F) Λ₀ .tc) α) (Q : α → sProp 𝕄) :
    iprop(rAt c e f ∗ (rAt c e f -∗ run c (k (blockAt f e)) Q)) ⊢ run c (.op (.load (Memref.whole cc0_scratch2) (Rect.unit (s := S3x64x512) ![e.val, 0, 0] S1x64x512.size (inb3 e)).toLoadRect hl) k) Q :=
  wp_load_at c (mr := Memref.whole cc0_scratch2) (r := (Rect.unit (s := S3x64x512) ![e.val, 0, 0] S1x64x512.size (inb3 e))) (rAt c e f) f _ (accRecv_pt c e f) (accRecv_read e f) k Q
theorem load_own (f : (stack 8).Idx → Elt F .bf16) {hl : (Memref.whole cc0_scratch3).view.LoadsAt (Rect.unit (s := S8x64x512) (k0_off2 c) S1x64x512.size (k0_off2_inb c)).toLoadRect}
    (k : (S1x64x512.Idx → Elt F .bf16) → Prog (TpuEff nD τ sig (Elt F) Λ₀ .tc) α) (Q : α → sProp 𝕄) :
    iprop(gAt c (rOf c) fullShare f ∗ (gAt c (rOf c) fullShare f -∗ run c (k (blockAt f (rOf c))) Q)) ⊢ run c (.op (.load (Memref.whole cc0_scratch3) (Rect.unit (s := S8x64x512) (k0_off2 c) S1x64x512.size (k0_off2_inb c)).toLoadRect hl) k) Q :=
  wp_load_at c (mr := Memref.whole cc0_scratch3) (r := (Rect.unit (s := S8x64x512) (k0_off2 c) S1x64x512.size (k0_off2_inb c))) (gAt c (rOf c) fullShare f) f _ (accKeep_pt c f) (accKeep_read c f) k Q
theorem load_peer (i : Fin 7) (f : (stack 8).Idx → Elt F .bf16) {hl : (Memref.whole cc0_scratch3).view.LoadsAt (Rect.unit (s := S8x64x512) (k0_off8 c (k0_off8_at i).1 (k0_off8_at i).2) S1x64x512.size (k0_off8_inb c i)).toLoadRect}
    (k : (S1x64x512.Idx → Elt F .bf16) → Prog (TpuEff nD τ sig (Elt F) Λ₀ .tc) α) (Q : α → sProp 𝕄) :
    iprop(gAt c (rr c i) fullShare f ∗ (gAt c (rr c i) fullShare f -∗ run c (k (blockAt f (rr c i))) Q)) ⊢ run c (.op (.load (Memref.whole cc0_scratch3) (Rect.unit (s := S8x64x512) (k0_off8 c (k0_off8_at i).1 (k0_off8_at i).2) S1x64x512.size (k0_off8_inb c i)).toLoadRect hl) k) Q :=
  wp_load_at c (mr := Memref.whole cc0_scratch3) (r := (Rect.unit (s := S8x64x512) (k0_off8 c (k0_off8_at i).1 (k0_off8_at i).2) S1x64x512.size (k0_off8_inb c i))) (gAt c (rr c i) fullShare f) f _ (accPeer_pt c i f) (accPeer_read c i f) k Q
theorem load_out_own (f : S512x512.Idx → Elt F .f32) {hl : (Memref.whole cc0_stg1_0).view.LoadsAt (Rect.unit (s := S512x512) (k0_off6 c) S64x512.size (k0_off6_inb c)).toLoadRect}
    (k : (S64x512.Idx → Elt F .f32) → Prog (TpuEff nD τ sig (Elt F) Λ₀ .tc) α) (Q : α → sProp 𝕄) :
    iprop(oAt c (rOf c) f ∗ (oAt c (rOf c) f -∗ run c (k (fun y => f (atBand (rOf c) y))) Q)) ⊢ run c (.op (.load (Memref.whole cc0_stg1_0) (Rect.unit (s := S512x512) (k0_off6 c) S64x512.size (k0_off6_inb c)).toLoadRect hl) k) Q :=
  wp_load_at c (mr := Memref.whole cc0_stg1_0) (r := (Rect.unit (s := S512x512) (k0_off6 c) S64x512.size (k0_off6_inb c))) (oAt c (rOf c) f) f _ (accOwnOut_pt c f) (accOwnOut_read c f) k Q
theorem load_out_peer (i : Fin 7) (f : S512x512.Idx → Elt F .f32) {hl : (Memref.whole cc0_stg1_0).view.LoadsAt (Rect.unit (s := S512x512) (k0_off9 c (k0_off9_at i).1 (k0_off9_at i).2) S64x512.size (k0_off9_inb c i)).toLoadRect}
    (k : (S64x512.Idx → Elt F .f32) → Prog (TpuEff nD τ sig (Elt F) Λ₀ .tc) α) (Q : α → sProp 𝕄) :
    iprop(oAt c (rr c i) f ∗ (oAt c (rr c i) f -∗ run c (k (fun y => f (atBand (rr c i) y))) Q)) ⊢ run c (.op (.load (Memref.whole cc0_stg1_0) (Rect.unit (s := S512x512) (k0_off9 c (k0_off9_at i).1 (k0_off9_at i).2) S64x512.size (k0_off9_inb c i)).toLoadRect hl) k) Q :=
  wp_load_at c (mr := Memref.whole cc0_stg1_0) (r := (Rect.unit (s := S512x512) (k0_off9 c (k0_off9_at i).1 (k0_off9_at i).2) S64x512.size (k0_off9_inb c i))) (oAt c (rr c i) f) f _ (accPeerOut_pt c i f) (accPeerOut_read c i f) k Q
theorem store_s (e : Fin 3) (f g : (stack 3).Idx → Elt F .bf16) (w : (S1x64x512.Idx → Elt F .bf16)) (hw : w = blockAt g e)
    {hx : ((Memref.whole cc0_scratch1).access (Rect.unit (s := S3x64x512) ![e.val, 0, 0] S1x64x512.size (inb3 e))).Stores Finset.univ} {hm : Finset.univ = Finset.univ ∨ ∀ a, (Rect.unit (s := S3x64x512) ![e.val, 0, 0] S1x64x512.size (inb3 e)).stride a = 1}
    (k : PUnit → Prog (TpuEff nD τ sig (Elt F) Λ₀ .tc) α) (Q : α → sProp 𝕄) :
    iprop(sAt c e f ∗ (sAt c e g -∗ run c (k ⟨⟩) Q)) ⊢ run c (.op (.store (Memref.whole cc0_scratch1) (Rect.unit (s := S3x64x512) ![e.val, 0, 0] S1x64x512.size (inb3 e)) w Finset.univ hx hm) k) Q :=
  wp_store_at c (mr := Memref.whole cc0_scratch1) (r := (Rect.unit (s := S3x64x512) ![e.val, 0, 0] S1x64x512.size (inb3 e))) (sAt c e f) (sAt c e g) f g w (accSend_pt c e f) (accSend_pt c e g) (hw.trans (accSend_read e g).symm) k Q
theorem store_own (f g : (stack 8).Idx → Elt F .bf16) (w : (S1x64x512.Idx → Elt F .bf16)) (hw : w = blockAt g (rOf c))
    {hx : ((Memref.whole cc0_scratch3).access (Rect.unit (s := S8x64x512) (k0_off2 c) S1x64x512.size (k0_off2_inb c))).Stores Finset.univ} {hm : Finset.univ = Finset.univ ∨ ∀ a, (Rect.unit (s := S8x64x512) (k0_off2 c) S1x64x512.size (k0_off2_inb c)).stride a = 1}
    (k : PUnit → Prog (TpuEff nD τ sig (Elt F) Λ₀ .tc) α) (Q : α → sProp 𝕄) :
    iprop(gAt c (rOf c) fullShare f ∗ (gAt c (rOf c) fullShare g -∗ run c (k ⟨⟩) Q)) ⊢ run c (.op (.store (Memref.whole cc0_scratch3) (Rect.unit (s := S8x64x512) (k0_off2 c) S1x64x512.size (k0_off2_inb c)) w Finset.univ hx hm) k) Q :=
  wp_store_at c (mr := Memref.whole cc0_scratch3) (r := (Rect.unit (s := S8x64x512) (k0_off2 c) S1x64x512.size (k0_off2_inb c))) (gAt c (rOf c) fullShare f) (gAt c (rOf c) fullShare g) f g w (accKeep_pt c f) (accKeep_pt c g) (hw.trans (accKeep_read c g).symm) k Q
theorem store_out_own (f g : S512x512.Idx → Elt F .f32) (w : (S64x512.Idx → Elt F .f32)) (hw : w = (accOwnOut c).read (Elt F) g)
    {hx : ((Memref.whole cc0_stg1_0).access (Rect.unit (s := S512x512) (k0_off6 c) S64x512.size (k0_off6_inb c))).Stores Finset.univ} {hm : Finset.univ = Finset.univ ∨ ∀ a, (Rect.unit (s := S512x512) (k0_off6 c) S64x512.size (k0_off6_inb c)).stride a = 1}
    (k : PUnit → Prog (TpuEff nD τ sig (Elt F) Λ₀ .tc) α) (Q : α → sProp 𝕄) :
    iprop(oAt c (rOf c) f ∗ (oAt c (rOf c) g -∗ run c (k ⟨⟩) Q)) ⊢ run c (.op (.store (Memref.whole cc0_stg1_0) (Rect.unit (s := S512x512) (k0_off6 c) S64x512.size (k0_off6_inb c)) w Finset.univ hx hm) k) Q :=
  wp_store_at c (mr := Memref.whole cc0_stg1_0) (r := (Rect.unit (s := S512x512) (k0_off6 c) S64x512.size (k0_off6_inb c))) (oAt c (rOf c) f) (oAt c (rOf c) g) f g w (accOwnOut_pt c f) (accOwnOut_pt c g) hw k Q
theorem store_out_peer (i : Fin 7) (f g : S512x512.Idx → Elt F .f32) (w : (S64x512.Idx → Elt F .f32)) (hw : w = (accPeerOut c i).read (Elt F) g)
    {hx : ((Memref.whole cc0_stg1_0).access (Rect.unit (s := S512x512) (k0_off9 c (k0_off9_at i).1 (k0_off9_at i).2) S64x512.size (k0_off9_inb c i))).Stores Finset.univ} {hm : Finset.univ = Finset.univ ∨ ∀ a, (Rect.unit (s := S512x512) (k0_off9 c (k0_off9_at i).1 (k0_off9_at i).2) S64x512.size (k0_off9_inb c i)).stride a = 1}
    (k : PUnit → Prog (TpuEff nD τ sig (Elt F) Λ₀ .tc) α) (Q : α → sProp 𝕄) :
    iprop(oAt c (rr c i) f ∗ (oAt c (rr c i) g -∗ run c (k ⟨⟩) Q)) ⊢ run c (.op (.store (Memref.whole cc0_stg1_0) (Rect.unit (s := S512x512) (k0_off9 c (k0_off9_at i).1 (k0_off9_at i).2) S64x512.size (k0_off9_inb c i)) w Finset.univ hx hm) k) Q :=
  wp_store_at c (mr := Memref.whole cc0_stg1_0) (r := (Rect.unit (s := S512x512) (k0_off9 c (k0_off9_at i).1 (k0_off9_at i).2) S64x512.size (k0_off9_inb c i))) (oAt c (rr c i) f) (oAt c (rr c i) g) f g w (accPeerOut_pt c i f) (accPeerOut_pt c i g) hw k Q

end Accesses

end Cert.KernelIdeal.Hand

end
-- ==== Proof.Body.lean ====
/- The kernel's body on one device: each loop's step, for every device and index, and the whole body by the rule of
   loops. -/
module

public import proofs.«01_k».proof.Proof.Steps

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ) (c : Dev nD)

/-- Any contents. -/
abbrev lAny (c : Dev nD) (o : Fin 4) : sProp 𝕄 := iprop(∃ f, lAt c o f)
abbrev sAny (c : Dev nD) (e : Fin 3) : sProp 𝕄 := iprop(∃ f, sAt c e f)
abbrev rAny (c : Dev nD) (e : Fin 3) : sProp 𝕄 := iprop(∃ f, rAt c e f)
abbrev gAny (c : Dev nD) (s : Fin 8) : sProp 𝕄 := iprop(∃ f, gAt c s fullShare f)
abbrev oAny (c : Dev nD) (s : Fin 8) : sProp 𝕄 := iprop(∃ f, oAt c s f)
abbrev tok (c : Dev nD) (ρ : Role) (d : Fin 7) : sProp 𝕄 := dutyTok ER (cell c ρ) 0 d
abbrev pos (c : Dev nD) (ρ : Role) : sProp 𝕄 := atPos ER (cell c ρ) 0 ∅ 0
abbrev crd (c : Dev nD) (ρ : Role) (n : Nat) : sProp 𝕄 := cred (tallyAt (cell c ρ) () n)
abbrev zer (c : Dev nD) (ρ : Role) : sProp 𝕄 := semVal (cell c ρ) 0

/-! ## What each step takes and leaves -/

def fetchA (o : Fin 4) : sProp 𝕄 := iprop(pAt m c o ∗ lAny c o ∗ tok c (.fetch o) 0)
def fetchB (o : Fin 4) : sProp 𝕄 := crd c (.fetch o) nFetch
def barA (e : Fin 3) : sProp 𝕄 := iprop(rAny c (rev e) ∗ tok (ypeer c e) .bar (asDuty (rev e)))
def xzA (i : Fin 7) : sProp 𝕄 := iprop(gAny c (rr c i) ∗ tok (xp c i) .xz (neg i))
def packA (e : Fin 3) : sProp 𝕄 := iprop(crd c (.fetch e.succ) nFetch ∗ pos c (.fetch e.succ) ∗ sAny c e)
def fetched (o : Fin 4) : sProp 𝕄 := iprop(zer c (.fetch o) ∗ lAt c o (lbufV m c) ∗ pAt m c o)
def packB (e : Fin 3) : sProp 𝕄 := iprop(sAt c e (sbufV m c) ∗ fetched m c e.succ)
def rowA (e : Fin 3) : sProp 𝕄 := iprop(sAt c e (sbufV m c) ∗ rAny (ypeer c e) e ∗ tok c (.sent e) 0 ∗ tok (ypeer c e) (.got e) 0)
def rowB (e : Fin 3) : sProp 𝕄 := crd c (.sent e) nRow
def bandA (i : Fin 7) : sProp 𝕄 :=
  iprop(gAt c (rOf c) (eighth (rr c i)) (gbufV m c) ∗ gAny (xp c i) (rOf c) ∗ tok c (.left (rr c i)) 0 ∗ tok (xp c i) (.came (rOf c)) 0)
def bandB (i : Fin 7) : sProp 𝕄 := crd c (.left (rr c i)) nBand
def peerA (i : Fin 7) : sProp 𝕄 := iprop(crd c (.came (rr c i)) nBand ∗ pos c (.came (rr c i)) ∗ oAny c (rr c i))
def peerB (i : Fin 7) : sProp 𝕄 := iprop(oAt c (rr c i) (outV m c) ∗ zer c (.came (rr c i)) ∗ gAt c (rr c i) fullShare (gbufV m c))
def rowLeftA (e : Fin 3) : sProp 𝕄 := iprop(crd c (.sent e) nRow ∗ pos c (.sent e))
def rowLeftB (e : Fin 3) : sProp 𝕄 := iprop(zer c (.sent e) ∗ sAt c e (sbufV m c))
def bandLeftA (i : Fin 7) : sProp 𝕄 := iprop(crd c (.left (rr c i)) nBand ∗ pos c (.left (rr c i)))
def bandLeftB (i : Fin 7) : sProp 𝕄 := iprop(zer c (.left (rr c i)) ∗ gAt c (rOf c) (eighth (rr c i)) (gbufV m c))

section Steps

/-- Paying one unit of a list of dues. -/
theorem due_step {ι : Type} (A : CellTallies nD τ sig Unit) (g : ι → GSem nD τ sig) (n : Nat) (i : ι) (l : List ι) :
    A + due g n (i :: l) = A + due g n l + tallyAt (g i) () n := by
  rw [due_cons, add_comm (tallyAt _ () n), ← add_assoc]
theorem due_step' {ι : Type} (g : ι → GSem nD τ sig) (n : Nat) (i : ι) (l : List ι) :
    due g n (i :: l) = due g n l + tallyAt (g i) () n := by
  rw [due_cons, add_comm]
theorem mem_bar (p : Dev nD) (e : Fin 3) : asDuty e ∈ dutiesOf p .bar := by
  show asDuty e ∈ ({0, 1, 2} : Finset (Fin 7))
  revert e; decide

variable {α : Type}

theorem step_fetch (o : Fin 4) (k : Prog (TpuEff nD τ sig (Elt F) Λ₀ .tc) α) (Q : α → sProp 𝕄) :
    iprop(ctx m K ∗ emp ∗ fetchA m c o ∗ ((emp ∗ fetchB c o) -∗ run c k Q))
      ⊢ run c (fetchOp (Memref.whole main_arg0) (Memref.whole cc0_scratch0) cc0_scratch4 c o >>= fun _ => k) Q := by
  unfold fetchOp fetchA fetchB
  simp only [Prog.lift, Prog.bind_op, Prog.bind_ret]
  iintro ⟨#Hctx, -, ⟨Hp, ⟨%f, Hl⟩, Ht⟩, Hk⟩
  iapply (wp_copy_cell m K c (fun _ => k) Q (.fetch o) (congrArg SemLoc.dma (sem4_eq o)) rfl (partM (Memref.whole main_arg0) c o)
    (slot4 (Memref.whole cc0_scratch0) o) (quarter o) (partV m c) f (lbufV m c) (fetch_read m c o) (nFetch_eq o)
    ((sep_mono_left (Entails.of_eq (slot4_pt c o (lbufV m c))))))
  isplitr; · iexact Hctx
  isplitl [Hp]; · iexact Hp
  isplitl [Hl]; · iapply (Entails.of_eq (slot4_pt c o f).symm); iexact Hl
  isplitl [Ht]; · iexact Ht
  iintro Hc
  iapply Hk
  isplitr; · iempintro
  iexact Hc

theorem step_bar (e : Fin 3) (l : List (Fin 3)) (k : Prog (TpuEff nD τ sig (Elt F) Λ₀ .tc) α) (Q : α → sProp 𝕄) :
    iprop(ctx m K ∗ owesE c (dueBand c seven + dueRow c steps3 + dueXz c seven + dueBar c (e :: l)) ∗ barA c e
        ∗ ((owesE c (dueBand c seven + dueRow c steps3 + dueXz c seven + dueBar c l) ∗ emp) -∗ run c k Q))
      ⊢ run c (barOp c e >>= fun _ => k) Q := by
  unfold barOp barA
  iintro ⟨#Hctx, HO, ⟨⟨%f, Hr⟩, Ht⟩, Hk⟩
  iapply (wp_signal_cell m K c (fun _ => k) Q (ypeer c e) .bar (asDuty (rev e)) (barDev_eq c e) rfl (mem_bar _ _) rfl
    (O := dueBand c seven + dueRow c steps3 + dueXz c seven + dueBar c l)
    (due_step _ _ 1 e l))
  isplitr; · iexact Hctx
  isplitl [Hr]
  · unfold payOf
    rw [asStep_asDuty, ypeer_rev]
    iexists f; iexact Hr
  isplitl [HO]; · iexact HO
  isplitl [Ht]; · iexact Ht
  iintro HO
  iapply Hk
  isplitl [HO]; · iexact HO
  iempintro

theorem step_xz (i : Fin 7) (l : List (Fin 7)) (k : Prog (TpuEff nD τ sig (Elt F) Λ₀ .tc) α) (Q : α → sProp 𝕄) :
    iprop(ctx m K ∗ owesE c (dueBand c seven + dueRow c steps3 + dueXz c (i :: l)) ∗ xzA c i
        ∗ ((owesE c (dueBand c seven + dueRow c steps3 + dueXz c l) ∗ emp) -∗ run c k Q))
      ⊢ run c (xzOp cc0_scratch9 c i >>= fun _ => k) Q := by
  unfold xzOp xzA
  iintro ⟨#Hctx, HO, ⟨⟨%f, Hg⟩, Ht⟩, Hk⟩
  iapply (wp_signal_cell m K c (fun _ => k) Q (xp c i) .xz (neg i) (xzDev_eq c i) rfl (Finset.mem_univ _) rfl
    (O := dueBand c seven + dueRow c steps3 + dueXz c l)
    (due_step _ _ 1 i l))
  isplitr; · iexact Hctx
  isplitl [Hg]
  · unfold payOf
    rw [xp_neg]
    iexists f; iexact Hg
  isplitl [HO]; · iexact HO
  isplitl [Ht]; · iexact Ht
  iintro HO
  iapply Hk
  isplitl [HO]; · iexact HO
  iempintro

/-- The wait for block `o`. -/
theorem wait_fetch (o : Fin 4) {hs : (partM (Memref.whole main_arg0) c o).view.WordExact}
    {hd : (slot4 (Memref.whole cc0_scratch0) o).view.WordExact} (O : CellTallies nD τ sig Unit)
    (hO : (levAts L lv : sProp 𝕄) ⊢ MayWait (c : Thread nD τ) (Role.fetch o).sem () O)
    (k : PUnit → Prog (TpuEff nD τ sig (Elt F) Λ₀ .tc) α) (Q : α → sProp 𝕄) :
    iprop(ctx m K ∗ crd c (.fetch o) nFetch ∗ owesE c O ∗ pos c (.fetch o) ∗ ((owesE c O ∗ fetched m c o) -∗ run c (k ⟨⟩) Q))
      ⊢ run c (.op (.waitDma2 (sem4 cc0_scratch4 o) (partM (Memref.whole main_arg0) c o) (slot4 (Memref.whole cc0_scratch0) o) hs hd) k) Q := by
  have hs' := sem4_eq o
  generalize sem4 cc0_scratch4 o = sm at hs'
  subst hs'
  exact wp_wait_one m K c (.fetch o) (fun Z => wpE_waitDma2_eq 𝒱₀ c none Set.univ Z) rfl rfl _ rfl O hO k Q

theorem step_pack (e : Fin 3) (k : Prog (TpuEff nD τ sig (Elt F) Λ₀ .tc) α) (Q : α → sProp 𝕄) :
    iprop(ctx m K ∗ owesE c (dueBand c seven + dueRow c steps3) ∗ packA c e
        ∗ ((owesE c (dueBand c seven + dueRow c steps3) ∗ packB m c e) -∗ run c k Q))
      ⊢ run c (packOp (Memref.whole main_arg0) (Memref.whole cc0_scratch0) (Memref.whole cc0_scratch1) (Memref.isWhole_whole _) cc0_scratch4 c e >>= fun _ => k) Q := by
  unfold packOp packA packB
  simp only [Prog.lift, Prog.bind_op, Prog.bind_ret]
  refine BIBase.Entails.trans ?_ (wait_fetch m K c e.succ _ (mayWait_rows c (.fetch e.succ) (show 0 < 2 by decide) steps3) _ _)
  iintro ⟨#Hctx, HO, ⟨Hc, Hat, ⟨%f, Hs⟩⟩, Hk⟩
  isplitr; · iexact Hctx
  isplitl [Hc]; · iexact Hc
  isplitl [HO]; · iexact HO
  isplitl [Hat]; · iexact Hat
  unfold fetched
  iintro ⟨HO, Hz, Hl, Hp⟩
  iapply (load_l c e.succ (lbufV m c))
  isplitl [Hl]; · iexact Hl
  iintro Hl
  iapply (load_s c e f)
  isplitl [Hs]; · iexact Hs
  iintro Hs
  iapply (store_s c e f (sbufV m c) (k0_pay1 (blockAt (lbufV m c) e.succ)) (blockAt_sbufV m c e).symm (fun _ => k) Q)
  isplitl [Hs]; · iexact Hs
  iintro Hs
  iapply Hk
  isplitl [HO]; · iexact HO
  isplitl [Hs]; · iexact Hs
  isplitl [Hz]; · iexact Hz
  isplitl [Hl]; · iexact Hl
  iexact Hp

theorem step_row (e : Fin 3) (l : List (Fin 3)) (k : Prog (TpuEff nD τ sig (Elt F) Λ₀ .tc) α) (Q : α → sProp 𝕄) :
    iprop(ctx m K ∗ owesE c (dueBand c seven + dueRow c (e :: l)) ∗ rowA m c e
        ∗ ((owesE c (dueBand c seven + dueRow c l) ∗ rowB c e) -∗ run c k Q))
      ⊢ run c (rowOp (Memref.whole cc0_scratch1) (Memref.isWhole_whole _) (Memref.whole cc0_scratch2) (Memref.isWhole_whole _) cc0_scratch5 cc0_scratch6 c e >>= fun _ => k) Q := by
  unfold rowOp rowA rowB
  simp only [Prog.lift, Prog.bind_op, Prog.bind_ret]
  iintro ⟨#Hctx, HO, ⟨Hs, ⟨%f, Hr⟩, Ht₁, Ht₂⟩, Hk⟩
  iapply (wp_send_cell m K c (fun _ => k) Q (ypeer c e) (.sent e) (.got e) (rowDev_eq c e) (congrArg SemLoc.dma (sem3_sent e)) (congrArg SemLoc.dma (sem3_got e))
    rfl rfl (slot3 (Memref.whole cc0_scratch1) e) (slot3 (Memref.whole cc0_scratch2) e) fullShare (sbufV m c) f (rbufV m (ypeer c e)) (row_read m c e) (nRow_recv e) rfl
    (Entails.of_eq (slot3_send_pt c e _)) (Entails.of_eq (slot3_recv_pt (ypeer c e) e _))
    (O := dueBand c seven + dueRow c l)
    (due_step _ _ nRow e l))
  isplitr; · iexact Hctx
  isplitl [Hs]; · iapply (Entails.of_eq (slot3_send_pt c e (sbufV m c)).symm); iexact Hs
  isplitl [Hr]; · iapply (Entails.of_eq (slot3_recv_pt (ypeer c e) e f).symm); iexact Hr
  isplitl [HO]; · iexact HO
  isplitl [Ht₁]; · iexact Ht₁
  isplitl [Ht₂]; · iexact Ht₂
  iintro ⟨Hc, HO⟩
  iapply Hk
  isplitl [HO]; · iexact HO
  iexact Hc

theorem step_own (k : Vec F S1x64x512 .f32 → Prog (TpuEff nD τ sig (Elt F) Λ₀ .tc) α) (Q : α → sProp 𝕄) :
    iprop(ctx m K ∗ owesE c (dueBand c seven) ∗ crd c (.fetch 0) nFetch ∗ pos c (.fetch 0)
        ∗ ((owesE c (dueBand c seven) ∗ fetched m c 0) -∗ run c (k (blockAt (lbufV m c) 0)) Q))
      ⊢ run c (ownBlock (Memref.whole main_arg0) (Memref.whole cc0_scratch0) cc0_scratch4 c >>= k) Q := by
  unfold ownBlock
  simp only [Prog.lift, Prog.bind_op, Prog.bind_ret]
  refine BIBase.Entails.trans ?_ (wait_fetch m K c 0 _ (mayWait_bands c (.fetch 0) (show 0 < 3 by decide) seven) _ _)
  iintro ⟨#Hctx, HO, Hc, Hat, Hk⟩
  isplitr; · iexact Hctx
  isplitl [Hc]; · iexact Hc
  isplitl [HO]; · iexact HO
  isplitl [Hat]; · iexact Hat
  unfold fetched
  iintro ⟨HO, Hz, Hl, Hp⟩
  iapply (load_l c 0 (lbufV m c))
  isplitl [Hl]; · iexact Hl
  iintro Hl
  iapply Hk
  isplitl [HO]; · iexact HO
  isplitl [Hz]; · iexact Hz
  isplitl [Hl]; · iexact Hl
  iexact Hp

theorem step_recv (e : Fin 3) (k : Vec F S1x64x512 .bf16 → Prog (TpuEff nD τ sig (Elt F) Λ₀ .tc) α) (Q : α → sProp 𝕄) :
    iprop(ctx m K ∗ owesE c (dueBand c seven) ∗ (crd c (.got e) nRow ∗ pos c (.got e))
        ∗ ((owesE c (dueBand c seven) ∗ (zer c (.got e) ∗ rAt c e (rbufV m c))) -∗ run c (k (blockAt (rbufV m c) e)) Q))
      ⊢ run c (recvRow (Memref.whole cc0_scratch1) (Memref.isWhole_whole _) (Memref.whole cc0_scratch2) (Memref.isWhole_whole _) cc0_scratch6 e >>= k) Q := by
  unfold recvRow
  simp only [Prog.lift, Prog.bind_op, Prog.bind_ret]
  have hs' := sem3_got e
  generalize sem3 cc0_scratch6 e = sm at hs'
  subst hs'
  refine BIBase.Entails.trans ?_ (wp_wait_one m K c (.got e) (fun Z => wpE_waitDma2_eq 𝒱₀ c none Set.univ Z) (nRow_recv e) rfl (rAt c e (rbufV m c)) rfl _ (mayWait_bands c (.got e) (show 2 < 3 by decide) seven) _ _)
  iintro ⟨#Hctx, HO, ⟨Hc, Hat⟩, Hk⟩
  isplitr; · iexact Hctx
  isplitl [Hc]; · iexact Hc
  isplitl [HO]; · iexact HO
  isplitl [Hat]; · iexact Hat
  iintro ⟨HO, Hz, Hr⟩
  iapply (load_r c e (rbufV m c))
  isplitl [Hr]; · iexact Hr
  iintro Hr
  iapply Hk
  isplitl [HO]; · iexact HO
  isplitl [Hz]; · iexact Hz
  iexact Hr

theorem step_keep (k : Prog (TpuEff nD τ sig (Elt F) Λ₀ .tc) α) (Q : α → sProp 𝕄) :
    iprop(gAny c (rOf c) ∗ (gAt c (rOf c) fullShare (gbufV m c) -∗ run c k Q))
      ⊢ run c (keepOp (Memref.whole cc0_scratch3) (Memref.isWhole_whole _) c (bandV m c) >>= fun _ => k) Q := by
  unfold keepOp
  simp only [Prog.lift, Prog.bind_op, Prog.bind_ret]
  iintro ⟨⟨%f, Hg⟩, Hk⟩
  iapply (load_own c f)
  isplitl [Hg]; · iexact Hg
  iintro Hg
  iapply (store_own c f (gbufV m c) (bandV m c) (by rw [blockAt_gbufV, pr_rOf]) (fun _ => k) Q)
  isplitl [Hg]; · iexact Hg
  iexact Hk

theorem step_band (i : Fin 7) (l : List (Fin 7)) (k : Prog (TpuEff nD τ sig (Elt F) Λ₀ .tc) α) (Q : α → sProp 𝕄) :
    iprop(ctx m K ∗ owesE c (dueBand c (i :: l)) ∗ bandA m c i ∗ ((owesE c (dueBand c l) ∗ bandB c i) -∗ run c k Q))
      ⊢ run c (bandOp (Memref.whole cc0_scratch3) (Memref.isWhole_whole _) cc0_scratch7 cc0_scratch8 c i >>= fun _ => k) Q := by
  unfold bandOp bandA bandB
  simp only [Prog.lift, Prog.bind_op, Prog.bind_ret]
  iintro ⟨#Hctx, HO, ⟨Hs, ⟨%f, Hr⟩, Ht₁, Ht₂⟩, Hk⟩
  iapply (wp_send_cell m K c (fun _ => k) Q (xp c i) (.left (rr c i)) (.came (rOf c)) (bandDev_eq c i) (congrArg SemLoc.dma (peerSem_left c i)) (congrArg SemLoc.dma (ownSem_band c))
    (duties_left c i) (duties_came_xp c i) (ownM (Memref.whole cc0_scratch3) c) (ownM (Memref.whole cc0_scratch3) c) (eighth (rr c i)) (gbufV m c) f (gbufV m (xp c i))
    (band_read m c i) (nBand_own c) rfl
    (Entails.of_eq (ownM_pt c c _ _)) (Entails.of_eq (ownM_pt (xp c i) c _ _))
    (O := dueBand c l)
    (due_step' _ nBand i l))
  isplitr; · iexact Hctx
  isplitl [Hs]; · iapply (Entails.of_eq (ownM_pt c c (eighth (rr c i)) (gbufV m c)).symm); iexact Hs
  isplitl [Hr]; · iapply (Entails.of_eq (ownM_pt (xp c i) c fullShare f).symm); iexact Hr
  isplitl [HO]; · iexact HO
  isplitl [Ht₁]; · iexact Ht₁
  isplitl [Ht₂]; · iexact Ht₂
  iintro ⟨Hc, HO⟩
  iapply Hk
  isplitl [HO]; · iexact HO
  iexact Hc

theorem step_placeOwn (k : Prog (TpuEff nD τ sig (Elt F) Λ₀ .tc) α) (Q : α → sProp 𝕄) :
    iprop(oAny c (rOf c) ∗ (oAt c (rOf c) (outV m c) -∗ run c k Q))
      ⊢ run c (placeOwn (Memref.whole cc0_stg1_0) c (normedV m c) >>= fun _ => k) Q := by
  unfold placeOwn
  simp only [Prog.lift, Prog.bind_op, Prog.bind_ret]
  iintro ⟨⟨%f, Ho⟩, Hk⟩
  iapply (load_out_own c f)
  isplitl [Ho]; · iexact Ho
  iintro Ho
  iapply (store_out_own c f (outV m c) (normedV m c) (out_own m c).symm (fun _ => k) Q)
  isplitl [Ho]; · iexact Ho
  iexact Hk

/-- Owing nothing, a device may wait on any cell. -/
theorem mayWait_none (ρ : Role) : (levAts L lv : sProp 𝕄) ⊢ MayWait (c : Thread nD τ) ρ.sem () 0 := by
  rw [MayWait_zero]; iintro -; iempintro

theorem step_peer (i : Fin 7) (k : Prog (TpuEff nD τ sig (Elt F) Λ₀ .tc) α) (Q : α → sProp 𝕄) :
    iprop(ctx m K ∗ owesE c 0 ∗ peerA c i ∗ ((owesE c 0 ∗ peerB m c i) -∗ run c k Q))
      ⊢ run c (placePeer (Memref.whole cc0_stg1_0) (Memref.whole cc0_scratch3) (Memref.isWhole_whole _) cc0_scratch8 c i >>= fun _ => k) Q := by
  unfold placePeer peerA peerB
  simp only [Prog.lift, Prog.bind_op, Prog.bind_ret]
  have hs' := peerSem_band c i
  generalize peerSem cc0_scratch8 c i = sm at hs'
  subst hs'
  refine BIBase.Entails.trans ?_ (wp_wait_one m K c (.came (rr c i)) (fun Z => wpE_waitDma2_eq 𝒱₀ c none Set.univ Z) (nBand_peer c i) (duties_came c i) (gAt c (rr c i) fullShare (gbufV m c)) rfl 0 (mayWait_none c _) _ _)
  iintro ⟨#Hctx, HO, ⟨Hc, Hat, ⟨%f, Ho⟩⟩, Hk⟩
  isplitr; · iexact Hctx
  isplitl [Hc]; · iexact Hc
  isplitl [HO]; · iexact HO
  isplitl [Hat]; · iexact Hat
  iintro ⟨HO, Hz, Hg⟩
  iapply (load_peer c i (gbufV m c))
  isplitl [Hg]; · iexact Hg
  iintro Hg
  iapply (load_out_peer c i f)
  isplitl [Ho]; · iexact Ho
  iintro Ho
  iapply (store_out_peer c i f (outV m c) (k0_pay9 (blockAt (gbufV m c) (rr c i))) (out_peer m c i).symm (fun _ => k) Q)
  isplitl [Ho]; · iexact Ho
  iintro Ho
  iapply Hk
  isplitl [HO]; · iexact HO
  isplitl [Ho]; · iexact Ho
  isplitl [Hz]; · iexact Hz
  iexact Hg

theorem step_rowLeft (e : Fin 3) (k : Prog (TpuEff nD τ sig (Elt F) Λ₀ .tc) α) (Q : α → sProp 𝕄) :
    iprop(ctx m K ∗ owesE c 0 ∗ rowLeftA c e ∗ ((owesE c 0 ∗ rowLeftB m c e) -∗ run c k Q))
      ⊢ run c (rowLeft (Memref.whole cc0_scratch1) (Memref.isWhole_whole _) (Memref.whole cc0_scratch2) (Memref.isWhole_whole _) cc0_scratch5 e >>= fun _ => k) Q := by
  unfold rowLeft rowLeftA rowLeftB
  simp only [Prog.lift, Prog.bind_op, Prog.bind_ret]
  have hs' := sem3_sent e
  generalize sem3 cc0_scratch5 e = sm at hs'
  subst hs'
  refine BIBase.Entails.trans ?_ (wp_wait_one m K c (.sent e) (fun Z => wpE_waitDma2_eq 𝒱₀ c none Set.univ Z) (nRow_send e) rfl (sAt c e (sbufV m c)) rfl 0 (mayWait_none c _) _ _)
  iintro ⟨#Hctx, HO, ⟨Hc, Hat⟩, Hk⟩
  isplitr; · iexact Hctx
  isplitl [Hc]; · iexact Hc
  isplitl [HO]; · iexact HO
  isplitl [Hat]; · iexact Hat
  iintro ⟨HO, Hz, Hs⟩
  iapply Hk
  isplitl [HO]; · iexact HO
  isplitl [Hz]; · iexact Hz
  iexact Hs

theorem step_bandLeft (i : Fin 7) (k : Prog (TpuEff nD τ sig (Elt F) Λ₀ .tc) α) (Q : α → sProp 𝕄) :
    iprop(ctx m K ∗ owesE c 0 ∗ bandLeftA c i ∗ ((owesE c 0 ∗ bandLeftB m c i) -∗ run c k Q))
      ⊢ run c (bandLeft (Memref.whole cc0_scratch3) (Memref.isWhole_whole _) cc0_scratch7 c i >>= fun _ => k) Q := by
  unfold bandLeft bandLeftA bandLeftB
  simp only [Prog.lift, Prog.bind_op, Prog.bind_ret]
  have hs' := peerSem_left c i
  generalize peerSem cc0_scratch7 c i = sm at hs'
  subst hs'
  refine BIBase.Entails.trans ?_ (wp_wait_one m K c (.left (rr c i)) (fun Z => wpE_waitDma2_eq 𝒱₀ c none Set.univ Z) (nBand_own c) (duties_left c i) (gAt c (rOf c) (eighth (rr c i)) (gbufV m c)) rfl 0 (mayWait_none c _) _ _)
  iintro ⟨#Hctx, HO, ⟨Hc, Hat⟩, Hk⟩
  isplitr; · iexact Hctx
  isplitl [Hc]; · iexact Hc
  isplitl [HO]; · iexact HO
  isplitl [Hat]; · iexact Hat
  iintro ⟨HO, Hz, Hs⟩
  iapply Hk
  isplitl [HO]; · iexact HO
  isplitl [Hz]; · iexact Hz
  iexact Hs

end Steps

/-! ## The whole body -/

/-- The device's own number, and the seven others. -/
theorem bigSep_plane (c : Dev nD) (Φ : Fin 8 → sProp 𝕄) :
    bigSep Finset.univ Φ = iprop(Φ (rOf c) ∗ bigSep Finset.univ fun i : Fin 7 => Φ (rr c i)) := by
  have h : (Finset.univ : Finset (Fin 8)) = insert (rOf c) (Finset.univ.map ⟨rr c, rr_inj c⟩) := by
    ext s
    refine ⟨fun _ => ?_, fun _ => Finset.mem_univ _⟩
    rcases rr_cover c s with h | ⟨i, h⟩
    · exact Finset.mem_insert.mpr (Or.inl h)
    · exact Finset.mem_insert.mpr (Or.inr (Finset.mem_map.mpr ⟨i, Finset.mem_univ _, h.symm⟩))
  rw [h, bigSep_insert (fun hm => by
    obtain ⟨i, -, hi⟩ := Finset.mem_map.mp hm
    exact rr_ne c i hi), bigSep_map]
  rfl

/-- A band lent by eighths: the device's own piece stays, the seven others go. -/
theorem lend_band (c : Dev nD) (f : (stack 8).Idx → Elt F .bf16) :
    gAt c (rOf c) fullShare f
      = iprop(gAt c (rOf c) (eighth (rOf c)) f ∗ bigSep Finset.univ fun i : Fin 7 => gAt c (rOf c) (eighth (rr c i)) f) :=
  (pointsTo_piecesOf _ _ (by decide) fullShare).trans (bigSep_plane c fun s => gAt c (rOf c) (eighth s) f)

/-- Two resources per index make one. -/
theorem zip {ι : Type} [Fintype ι] (Φ Ψ : ι → sProp 𝕄) :
    iprop(bigSep Finset.univ Φ ∗ bigSep Finset.univ Ψ) ⊢ bigSep Finset.univ fun i => iprop(Φ i ∗ Ψ i) := by
  rw [bigSep_sep']
theorem unzip {ι : Type} [Fintype ι] (Φ Ψ : ι → sProp 𝕄) :
    (bigSep Finset.univ fun i => iprop(Φ i ∗ Ψ i)) ⊢ iprop(bigSep Finset.univ Φ ∗ bigSep Finset.univ Ψ) := by
  rw [bigSep_sep']

/-- What the barrier's three signals hand over: each y peer's receive slot. -/
theorem bar_gives (c : Dev nD) : bigSep (dutiesOf c .bar) (payOf m c .bar) = bigSep Finset.univ fun e : Fin 3 => rAny (F := F) (ypeer c e) e := by
  have h : (dutiesOf c .bar) = (Finset.univ : Finset (Fin 3)).map ⟨asDuty, fun a b h => Fin.ext (congrArg (fun d : Fin 7 => d.val) h)⟩ := by
    show ({0, 1, 2} : Finset (Fin 7)) = _
    decide
  rw [h, bigSep_map]
  exact bigSep_congr fun e _ => by
    show iprop(∃ f, rAt (ypeer c (asStep (asDuty e))) (asStep (asDuty e)) f) = _
    rw [asStep_asDuty]

/-- The wait on a signalled semaphore for all its units. -/
theorem wait_word {α : Type} (c : Dev nD) (ρ : Role) {sm : Sem sig} (hsm : SemLoc.reg sm = ρ.sem) (w : BitVec 32) (n : Nat) (hw : w.toInt = (n : Int))
    (hn : n = (dutiesOf c ρ).card * unitsOf ρ) (O : CellTallies nD τ sig Unit)
    (hO : (levAts L lv : sProp 𝕄) ⊢ MayWait (c : Thread nD τ) ρ.sem () O)
    (k : PUnit → Prog (TpuEff nD τ sig (Elt F) Λ₀ .tc) α) (Q : α → sProp 𝕄) :
    iprop(ctx m K ∗ crd c ρ n ∗ owesE c O ∗ pos c ρ
        ∗ ((owesE c O ∗ zer c ρ ∗ bigSep (dutiesOf c ρ) (payOf m c ρ)) -∗ run c (k ⟨⟩) Q))
      ⊢ run c (semWaitWord sm w >>= k) Q := by
  simp only [semWaitWord, hw, Prog.bind_op, Prog.bind_ret]
  exact wp_wait_role m K c ρ (fun Z => by rw [wpE_semWait_eq 𝒱₀ (c : Thread nD τ) none Set.univ Z, hsm]) hn O hO k Q

/-- The gamma buffer, whole. -/
abbrev gammaAt (c : Dev nD) : sProp 𝕄 := ((c : Thread nD τ).loc cc0_stg0_0) ↦{fullShare} (gammaV m c)

theorem load_gamma {α : Type} (c : Dev nD) {hl : (Memref.whole cc0_stg0_0).view.LoadsAt (Rect.unit (s := S512) ![0] S512.size inb_S512_S512_0).toLoadRect}
    (k : (S512.Idx → Elt F .f32) → Prog (TpuEff nD τ sig (Elt F) Λ₀ .tc) α) (Q : α → sProp 𝕄) :
    iprop(gammaAt m c ∗ (gammaAt m c -∗ run c (k (gammaV m c)) Q))
      ⊢ run c (.op (.load (Memref.whole cc0_stg0_0) (Rect.unit (s := S512) ![0] S512.size inb_S512_S512_0).toLoadRect hl) k) Q := by
  have hr : (Memref.whole cc0_stg0_0 : Memref sig .tc .vmem S512 .f32).view.readAt (Elt F) (Rect.unit (s := S512) ![0] S512.size inb_S512_S512_0).toLoadRect (gammaV m c) = gammaV m c :=
    Memref.readAt_unit_zero (Elt F) cc0_stg0_0 (funext fun a => by fin_cases a; rfl) _ _
  iintro ⟨Hg, Hk⟩
  iapply (wp_load 𝒱₀ (c : Thread nD τ) none Set.univ (m := Memref.whole cc0_stg0_0) (Finset.subset_univ _)) $$ Hg
  rw [hr]
  iexact Hk

/-- What the body takes beside the owed units: for each step what it needs that no earlier step has left. -/
def bodyIn (c : Dev nD) : sProp 𝕄 :=
  iprop((bigSep Finset.univ fun o : Fin 4 => fetchA m c o)
    ∗ (bigSep Finset.univ fun e : Fin 3 => barA c e) ∗ (bigSep Finset.univ fun i : Fin 7 => xzA c i)
    ∗ (bigSep Finset.univ fun e : Fin 3 => iprop(pos c (.fetch e.succ) ∗ sAny c e)) ∗ (crd c .bar 3 ∗ pos c .bar)
    ∗ (bigSep Finset.univ fun e : Fin 3 => iprop(tok c (.sent e) 0 ∗ tok (ypeer c e) (.got e) 0)) ∗ pos c (.fetch 0)
    ∗ (bigSep Finset.univ fun e : Fin 3 => iprop(crd c (.got e) nRow ∗ pos c (.got e)))
    ∗ gammaAt m c ∗ gAny c (rOf c) ∗ (crd c .xz 7 ∗ pos c .xz)
    ∗ (bigSep Finset.univ fun i : Fin 7 => iprop(tok c (.left (rr c i)) 0 ∗ tok (xp c i) (.came (rOf c)) 0))
    ∗ oAny c (rOf c) ∗ (bigSep Finset.univ fun i : Fin 7 => peerA c i)
    ∗ (bigSep Finset.univ fun e : Fin 3 => pos c (.sent e)) ∗ (bigSep Finset.univ fun i : Fin 7 => pos c (.left (rr c i)))
    ∗ pos c (.left (rOf c)) ∗ pos c (.came (rOf c)))

/-- What the body leaves: every buffer's contents, and every semaphore at zero. -/
def bodyOut (c : Dev nD) : sProp 𝕄 :=
  iprop((bigSep Finset.univ fun o : Fin 4 => fetched m c o)
    ∗ (bigSep Finset.univ fun e : Fin 3 => rowLeftB m c e) ∗ (bigSep Finset.univ fun e : Fin 3 => iprop(zer c (.got e) ∗ rAt c e (rbufV m c)))
    ∗ gammaAt m c ∗ gAt c (rOf c) fullShare (gbufV m c) ∗ oAt c (rOf c) (outV m c)
    ∗ (bigSep Finset.univ fun i : Fin 7 => zer c (.left (rr c i))) ∗ (bigSep Finset.univ fun i : Fin 7 => peerB m c i)
    ∗ zer c .bar ∗ zer c .xz ∗ zer c (.left (rOf c)) ∗ zer c (.came (rOf c)))

abbrev loopsAt : Prog (TpuEff nD τ sig (Elt F) Λ₀ .tc) PUnit :=
  loops (Memref.whole main_arg0) (Memref.whole cc0_stg0_0) (Memref.whole cc0_stg1_0) (Memref.whole cc0_scratch0)
    (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8 cc0_scratch9

/-- A program that has ended may close cells. -/
theorem wp_fupd_ret (c : Dev nD) (Q : PUnit → sProp 𝕄) : (|={Set.univ}=> Q ⟨⟩) ⊢ run c (.ret ⟨⟩) Q := by
  unfold run
  rw [wp_ret]

/-- A loop that ends the program. -/
theorem wp_each_end {ι : Type} [Fintype ι] [DecidableEq ι] (c : Dev nD) (f : ι → Prog (TpuEff nD τ sig (Elt F) Λ₀ .tc) PUnit)
    (R : sProp 𝕄) [BI.Persistent R] (S : List ι → sProp 𝕄) (A B : ι → sProp 𝕄)
    (step : ∀ (i : ι) (l : List ι) (k : Prog (TpuEff nD τ sig (Elt F) Λ₀ .tc) PUnit) (Q : PUnit → sProp 𝕄),
      iprop(R ∗ S (i :: l) ∗ A i ∗ ((S l ∗ B i) -∗ run c k Q)) ⊢ run c (f i >>= fun _ => k) Q)
    (l : List ι) (hl : l.Nodup) (hu : l.toFinset = Finset.univ) (Q : PUnit → sProp 𝕄) :
    iprop(R ∗ S l ∗ bigSep Finset.univ A ∗ ((S [] ∗ bigSep Finset.univ B) -∗ run c (.ret ⟨⟩) Q)) ⊢ run c (each l f) Q := by
  have h := wp_each_all c f R S A B step l hl hu (.ret ⟨⟩) Q
  have hb : (each l f >>= fun _ => Prog.ret ⟨⟩) = each l f := Prog.bind_pure (each l f)
  rwa [hb] at h

set_option maxHeartbeats 1600000 in
/-- The body runs from what it takes to what it leaves, owing nothing at the end. -/
theorem body_run (c : Dev nD) (Q : PUnit → sProp 𝕄) :
    iprop(ctx m K ∗ owesE c (O₀ c) ∗ bodyIn m c ∗ ((owesE c 0 ∗ bodyOut m c) -∗ Q ⟨⟩)) ⊢ run c loopsAt Q := by
  unfold bodyIn bodyOut loopsAt loops
  simp only [Prog.lift, Prog.bind_op, Prog.bind_ret, wp_deviceId]
  have hO1 : owesE (F := F) c (dueBand c seven + dueRow c steps3 + dueXz c seven + dueBar c []) = owesE c (dueBand c seven + dueRow c steps3 + dueXz c seven) :=
    congrArg (owesE c) (add_zero _)
  have hO2 : owesE (F := F) c (dueBand c seven + dueRow c steps3 + dueXz c []) = owesE c (dueBand c seven + dueRow c steps3) :=
    congrArg (owesE c) (add_zero _)
  have hO3 : owesE (F := F) c (dueBand c seven + dueRow c []) = owesE c (dueBand c seven) := congrArg (owesE c) (add_zero _)
  have hpk : bigSep Finset.univ (packB m c) ⊢ iprop((bigSep Finset.univ fun e : Fin 3 => sAt c e (sbufV m c)) ∗ (bigSep Finset.univ fun e : Fin 3 => fetched m c e.succ)) :=
    unzip (fun e : Fin 3 => sAt c e (sbufV m c)) fun e => fetched m c e.succ
  have hlf : bigSep Finset.univ (bandLeftB m c) ⊢ iprop((bigSep Finset.univ fun i : Fin 7 => zer c (.left (rr c i))) ∗ (bigSep Finset.univ fun i : Fin 7 => gAt c (rOf c) (eighth (rr c i)) (gbufV m c))) :=
    unzip (fun i : Fin 7 => zer c (.left (rr c i))) fun i => gAt c (rOf c) (eighth (rr c i)) (gbufV m c)
  have hf0 : fetchB c 0 ⊢ (crd c (.fetch 0) nFetch : sProp 𝕄) := Entails.rfl
  iintro ⟨#Hctx, HO, ⟨Hfetch, Hbar, Hxz, Hpack, ⟨HbarC, HbarP⟩, HrowT, HownP, Hgot, Hgam, Hg, ⟨HxzC, HxzP⟩, HbandT, Ho, Hpeer, HsentP, HleftP, Hl0, Hc0⟩, Hk⟩
  -- the four copies start
  iapply (wp_each_all c (fetchOp (Memref.whole main_arg0) (Memref.whole cc0_scratch0) cc0_scratch4 c) (ctx m K) (fun _ => iprop(emp)) (fetchA m c) (fetchB c)
    (fun o _ k Q => step_fetch m K c o k Q) [0, 1, 2, 3] (by decide) (by decide))
  isplitr; · iexact Hctx
  isplitr; · iempintro
  isplitl [Hfetch]; · iexact Hfetch
  iintro ⟨-, Hfetch⟩
  ihave Hfetch := (Entails.of_eq (bigSep_univ_succ (fetchB (F := F) c))) $$ Hfetch
  icases Hfetch with ⟨HownC, HpackC⟩
  ihave HownC := hf0 $$ HownC
  -- the signals
  iapply (wp_each_all c (barOp c) (ctx m K) (fun l => owesE c (dueBand c seven + dueRow c steps3 + dueXz c seven + dueBar c l)) (barA c) (fun _ => iprop(emp))
    (fun e l k Q => step_bar m K c e l k Q) steps3 (by decide) (by decide))
  isplitr; · iexact Hctx
  isplitl [HO]; · iexact HO
  isplitl [Hbar]; · iexact Hbar
  iintro ⟨HO, -⟩
  iapply (wp_each_all c (xzOp cc0_scratch9 c) (ctx m K) (fun l => owesE c (dueBand c seven + dueRow c steps3 + dueXz c l)) (xzA c) (fun _ => iprop(emp))
    (fun i l k Q => step_xz m K c i l k Q) seven (by decide) (by decide))
  isplitr; · iexact Hctx
  isplitl [HO]
  · iapply (Entails.of_eq hO1); iexact HO
  isplitl [Hxz]; · iexact Hxz
  iintro ⟨HO, -⟩
  -- the blocks are rounded
  iapply (wp_each_all c (packOp (Memref.whole main_arg0) (Memref.whole cc0_scratch0) (Memref.whole cc0_scratch1) (Memref.isWhole_whole _) cc0_scratch4 c) (ctx m K)
    (fun _ => owesE c (dueBand c seven + dueRow c steps3)) (packA c) (packB m c)
    (fun e _ k Q => step_pack m K c e k Q) steps3 (by decide) (by decide))
  isplitr; · iexact Hctx
  isplitl [HO]
  · iapply (Entails.of_eq hO2); iexact HO
  isplitl [HpackC Hpack]
  · iapply (zip (fun e : Fin 3 => fetchB (F := F) c e.succ) fun e => iprop(pos c (.fetch e.succ) ∗ sAny c e))
    isplitl [HpackC]; · iexact HpackC
    iexact Hpack
  iintro ⟨HO, Hpack⟩
  ihave Hpack := hpk $$ Hpack
  icases Hpack with ⟨Hs, HfetchedS⟩
  -- the barrier
  iapply (wait_word m K c .bar rfl 3#32 3 (by decide) rfl _ (mayWait_rows c .bar (show 1 < 2 by decide) steps3))
  isplitr; · iexact Hctx
  isplitl [HbarC]; · iexact HbarC
  isplitl [HO]; · iexact HO
  isplitl [HbarP]; · iexact HbarP
  iintro ⟨HO, HzBar, Hr⟩
  ihave Hr := (Entails.of_eq (bar_gives m c)) $$ Hr
  -- the rows go
  iapply (wp_each_all c (rowOp (Memref.whole cc0_scratch1) (Memref.isWhole_whole _) (Memref.whole cc0_scratch2) (Memref.isWhole_whole _) cc0_scratch5 cc0_scratch6 c) (ctx m K)
    (fun l => owesE c (dueBand c seven + dueRow c l)) (rowA m c) (rowB c)
    (fun e l k Q => step_row m K c e l k Q) steps3 (by decide) (by decide))
  isplitr; · iexact Hctx
  isplitl [HO]; · iexact HO
  isplitl [Hs Hr HrowT]
  · iapply (zip (fun e : Fin 3 => sAt c e (sbufV m c)) fun e => iprop(rAny (ypeer c e) e ∗ tok c (.sent e) 0 ∗ tok (ypeer c e) (.got e) 0))
    isplitl [Hs]; · iexact Hs
    iapply (zip (fun e : Fin 3 => rAny (F := F) (ypeer c e) e) fun e => iprop(tok c (.sent e) 0 ∗ tok (ypeer c e) (.got e) 0))
    isplitl [Hr]; · iexact Hr
    iexact HrowT
  iintro ⟨HO, HsentC⟩
  -- the device's own block, and the three received
  iapply (step_own m K c)
  isplitr; · iexact Hctx
  isplitl [HO]
  · iapply (Entails.of_eq hO3); iexact HO
  isplitl [HownC]; · iexact HownC
  isplitl [HownP]; · iexact HownP
  iintro ⟨HO, Hfetched0⟩
  ihave Hgot := (Entails.of_eq (bigSep_univ_succ fun e : Fin 3 => iprop(crd (F := F) c (.got e) nRow ∗ pos c (.got e)))) $$ Hgot
  icases Hgot with ⟨Hgot0, Hgot⟩
  ihave Hgot := (Entails.of_eq (bigSep_univ_succ fun e : Fin 2 => iprop(crd (F := F) c (.got e.succ) nRow ∗ pos c (.got e.succ)))) $$ Hgot
  icases Hgot with ⟨Hgot1, Hgot⟩
  ihave Hgot := (Entails.of_eq (bigSep_univ_succ fun e : Fin 1 => iprop(crd (F := F) c (.got e.succ.succ) nRow ∗ pos c (.got e.succ.succ)))) $$ Hgot
  icases Hgot with ⟨Hgot2, -⟩
  iapply (step_recv m K c 0)
  isplitr; · iexact Hctx
  isplitl [HO]; · iexact HO
  isplitl [Hgot0]; · iexact Hgot0
  iintro ⟨HO, Hr0⟩
  iapply (step_recv m K c 1)
  isplitr; · iexact Hctx
  isplitl [HO]; · iexact HO
  isplitl [Hgot1]; · iexact Hgot1
  iintro ⟨HO, Hr1⟩
  iapply (step_recv m K c 2)
  isplitr; · iexact Hctx
  isplitl [HO]; · iexact HO
  isplitl [Hgot2]; · iexact Hgot2
  iintro ⟨HO, Hr2⟩
  -- gamma, and the band
  iapply (load_gamma m c)
  isplitl [Hgam]; · iexact Hgam
  iintro Hgam
  iapply (step_keep m c)
  isplitl [Hg]; · iexact Hg
  iintro Hg
  iapply (wait_word m K c .xz rfl 7#32 7 (by decide) rfl _ (mayWait_bands c .xz (show 1 < 3 by decide) seven))
  isplitr; · iexact Hctx
  isplitl [HxzC]; · iexact HxzC
  isplitl [HO]; · iexact HO
  isplitl [HxzP]; · iexact HxzP
  iintro ⟨HO, HzXz, Hgp⟩
  ihave Hg := (Entails.of_eq (lend_band c (gbufV m c))) $$ Hg
  icases Hg with ⟨HgOwn, Hg⟩
  -- the bands go
  iapply (wp_each_all c (bandOp (Memref.whole cc0_scratch3) (Memref.isWhole_whole _) cc0_scratch7 cc0_scratch8 c) (ctx m K)
    (fun l => owesE c (dueBand c l)) (bandA m c) (bandB c)
    (fun i l k Q => step_band m K c i l k Q) seven (by decide) (by decide))
  isplitr; · iexact Hctx
  isplitl [HO]; · iexact HO
  isplitl [Hg Hgp HbandT]
  · iapply (zip (fun i : Fin 7 => gAt c (rOf c) (eighth (rr c i)) (gbufV m c)) fun i => iprop(gAny (xp c i) (rOf c) ∗ tok c (.left (rr c i)) 0 ∗ tok (xp c i) (.came (rOf c)) 0))
    isplitl [Hg]; · iexact Hg
    iapply (zip (fun i : Fin 7 => gAny (F := F) (xp c i) (rOf c)) fun i => iprop(tok c (.left (rr c i)) 0 ∗ tok (xp c i) (.came (rOf c)) 0))
    isplitl [Hgp]; · iexact Hgp
    iexact HbandT
  iintro ⟨HO, HleftC⟩
  -- the result
  iapply (step_placeOwn m c)
  isplitl [Ho]; · iexact Ho
  iintro Ho
  iapply (wp_each_all c (placePeer (Memref.whole cc0_stg1_0) (Memref.whole cc0_scratch3) (Memref.isWhole_whole _) cc0_scratch8 c) (ctx m K)
    (fun _ => owesE c 0) (peerA c) (peerB m c)
    (fun i _ k Q => step_peer m K c i k Q) seven (by decide) (by decide))
  isplitr; · iexact Hctx
  isplitl [HO]; · iexact HO
  isplitl [Hpeer]; · iexact Hpeer
  iintro ⟨HO, Hpeer⟩
  -- everything sent has left
  iapply (wp_each_all c (rowLeft (Memref.whole cc0_scratch1) (Memref.isWhole_whole _) (Memref.whole cc0_scratch2) (Memref.isWhole_whole _) cc0_scratch5) (ctx m K)
    (fun _ => owesE c 0) (rowLeftA c) (rowLeftB m c)
    (fun e _ k Q => step_rowLeft m K c e k Q) steps3 (by decide) (by decide))
  isplitr; · iexact Hctx
  isplitl [HO]; · iexact HO
  isplitl [HsentC HsentP]
  · iapply (zip (fun e : Fin 3 => crd (F := F) c (.sent e) nRow) fun e => pos c (.sent e))
    isplitl [HsentC]; · iexact HsentC
    iexact HsentP
  iintro ⟨HO, Hsent⟩
  iapply (wp_each_end c (bandLeft (Memref.whole cc0_scratch3) (Memref.isWhole_whole _) cc0_scratch7 c) (ctx m K)
    (fun _ => owesE c 0) (bandLeftA c) (bandLeftB m c)
    (fun i _ k Q => step_bandLeft m K c i k Q) seven (by decide) (by decide))
  isplitr; · iexact Hctx
  isplitl [HO]; · iexact HO
  isplitl [HleftC HleftP]
  · iapply (zip (fun i : Fin 7 => crd (F := F) c (.left (rr c i)) nBand) fun i => pos c (.left (rr c i)))
    isplitl [HleftC]; · iexact HleftC
    iexact HleftP
  iintro ⟨HO, Hleft⟩
  ihave Hleft := hlf $$ Hleft
  icases Hleft with ⟨HzLeft, Hg⟩
  -- the device's own number's cells
  iapply (wp_fupd_ret c Q)
  imod (close_unused m K c (.left (rOf c)) (duties_own c _ rfl).1) $$ [Hl0] with HzL
  · isplitr; · iexact Hctx
    iexact Hl0
  imod (close_unused m K c (.came (rOf c)) (duties_own c _ rfl).2) $$ [Hc0] with HzC
  · isplitr; · iexact Hctx
    iexact Hc0
  imodintro
  iapply Hk
  isplitl [HO]; · iexact HO
  isplitl [Hfetched0 HfetchedS]
  · iapply (Entails.of_eq (bigSep_univ_succ (fetched m c)).symm)
    isplitl [Hfetched0]; · iexact Hfetched0
    iexact HfetchedS
  isplitl [Hsent]; · iexact Hsent
  isplitl [Hr0 Hr1 Hr2]
  · iapply (Entails.of_eq (bigSep_univ_succ fun e : Fin 3 => iprop(zer c (.got e) ∗ rAt c e (rbufV m c))).symm)
    isplitl [Hr0]; · iexact Hr0
    iapply (Entails.of_eq (bigSep_univ_succ fun e : Fin 2 => iprop(zer c (.got e.succ) ∗ rAt c e.succ (rbufV m c))).symm)
    isplitl [Hr1]; · iexact Hr1
    iapply (Entails.of_eq (bigSep_univ_succ fun e : Fin 1 => iprop(zer c (.got e.succ.succ) ∗ rAt c e.succ.succ (rbufV m c))).symm)
    isplitl [Hr2]; · iexact Hr2
    iapply (Entails.of_eq (bigSep_empty (I := Fin 0) (Φ := _)).symm)
    iempintro
  isplitl [Hgam]; · iexact Hgam
  isplitl [HgOwn Hg]
  · iapply (Entails.of_eq (lend_band c (gbufV m c)).symm)
    isplitl [HgOwn]; · iexact HgOwn
    iexact Hg
  isplitl [Ho]; · iexact Ho
  isplitl [HzLeft]; · iexact HzLeft
  isplitl [Hpeer]; · iexact Hpeer
  isplitl [HzBar]; · iexact HzBar
  isplitl [HzXz]; · iexact HzXz
  isplitl [HzL]; · iexact HzL
  iexact HzC

end Cert.KernelIdeal.Hand

end
-- ==== Proof.Deal.lean ====
/- What the launch deals: every cell's invariant, and to each device its positions, the tokens of the duties it pays
   and the credits of what the others owe it. -/
module

public import proofs.«01_k».proof.Proof.Body

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The roles, kind by kind -/

/-- A role is of one of seven kinds. -/
def kinds : Unit ⊕ Unit ⊕ Fin 4 ⊕ Fin 3 ⊕ Fin 3 ⊕ Fin 8 ⊕ Fin 8 ≃ Role where
  toFun
    | .inl _ => .bar
    | .inr (.inl _) => .xz
    | .inr (.inr (.inl o)) => .fetch o
    | .inr (.inr (.inr (.inl e))) => .sent e
    | .inr (.inr (.inr (.inr (.inl e)))) => .got e
    | .inr (.inr (.inr (.inr (.inr (.inl s))))) => .left s
    | .inr (.inr (.inr (.inr (.inr (.inr s))))) => .came s
  invFun
    | .bar => .inl ()
    | .xz => .inr (.inl ())
    | .fetch o => .inr (.inr (.inl o))
    | .sent e => .inr (.inr (.inr (.inl e)))
    | .got e => .inr (.inr (.inr (.inr (.inl e))))
    | .left s => .inr (.inr (.inr (.inr (.inr (.inl s)))))
    | .came s => .inr (.inr (.inr (.inr (.inr (.inr s)))))
  left_inv x := by rcases x with _ | _ | _ | _ | _ | _ | _ <;> rfl
  right_inv ρ := by cases ρ <;> rfl

/-- A resource of every role, kind by kind. -/
theorem bigSep_role (Φ : Role → sProp 𝕄) :
    bigSep Finset.univ Φ = iprop(Φ .bar ∗ Φ .xz ∗ (bigSep Finset.univ fun o : Fin 4 => Φ (.fetch o))
      ∗ (bigSep Finset.univ fun e : Fin 3 => Φ (.sent e)) ∗ (bigSep Finset.univ fun e : Fin 3 => Φ (.got e))
      ∗ (bigSep Finset.univ fun s : Fin 8 => Φ (.left s)) ∗ (bigSep Finset.univ fun s : Fin 8 => Φ (.came s))) := by
  rw [bigSep_univ_equiv kinds Φ, bigSep_univ_sum, bigSep_univ_sum, bigSep_univ_sum, bigSep_univ_sum, bigSep_univ_sum, bigSep_univ_sum,
    bigSep_univ_of_subsingleton (), bigSep_univ_of_subsingleton ()]
  rfl

/-! ## Tokens -/

/-- All the cells of all devices. -/
def allCells : Finset (GSem nD τ sig) :=
  Finset.univ.map ⟨fun x : Dev nD × Role => cell x.1 x.2, fun a b h => Prod.ext (cell_inj h).1 (cell_inj h).2⟩
/-- A token of every number for every cell. -/
def allToks : Finset (GSem nD τ sig × ℕ × Fin 7) :=
  Finset.univ.map ⟨fun x : Dev nD × Role × Fin 7 => (cell x.1 x.2.1, 0, x.2.2), fun a b h => by
    have h1 := cell_inj (congrArg (fun y : GSem nD τ sig × ℕ × Fin 7 => y.1) h)
    have h2 : a.2.2 = b.2.2 := congrArg (fun y : GSem nD τ sig × ℕ × Fin 7 => y.2.2) h
    exact Prod.ext h1.1 (Prod.ext h1.2 h2)⟩

/-- The tokens of the duties device `c` pays. -/
def payToks (c : Dev nD) : sProp 𝕄 :=
  iprop((bigSep Finset.univ fun e : Fin 3 => tok (ypeer c e) .bar (asDuty (rev e))) ∗ (bigSep Finset.univ fun i : Fin 7 => tok (xp c i) .xz (neg i))
    ∗ (bigSep Finset.univ fun o : Fin 4 => tok c (.fetch o) 0) ∗ (bigSep Finset.univ fun e : Fin 3 => tok c (.sent e) 0)
    ∗ (bigSep Finset.univ fun e : Fin 3 => tok (ypeer c e) (.got e) 0)
    ∗ (bigSep Finset.univ fun i : Fin 7 => tok c (.left (rr c i)) 0) ∗ (bigSep Finset.univ fun i : Fin 7 => tok (xp c i) (.came (rOf c)) 0))

/-- A receive slot's owner, from its payer. -/
def gotStep : Equiv.Perm (Dev nD × Fin 3) where
  toFun x := (ypeer x.1 x.2, x.2)
  invFun x := (ypeer x.1 (rev x.2), x.2)
  left_inv x := Prod.ext (ypeer_rev x.1 x.2) rfl
  right_inv x := Prod.ext (ypeer_rev' x.1 x.2) rfl

/-- Resources of devices and indices, dealt along a permutation of the pairs. -/
theorem deal {ι : Type} [Fintype ι] (σ : Equiv.Perm (Dev nD × ι)) (Φ Ψ : Dev nD → ι → sProp 𝕄)
    (h : ∀ c i, Φ (σ (c, i)).1 (σ (c, i)).2 = Ψ c i) :
    (bigSep Finset.univ fun c : Dev nD => bigSep Finset.univ (Φ c)) = bigSep Finset.univ fun c : Dev nD => bigSep Finset.univ (Ψ c) := by
  rw [← bigSep_univ_prod (fun x : Dev nD × ι => Φ x.1 x.2), bigSep_univ_equiv σ, bigSep_univ_prod]
  exact bigSep_congr fun c _ => bigSep_congr fun i _ => h c i

/-- Of a cell's seven tokens, the first three; -/
theorem toks3 (c : Dev nD) (ρ : Role) : (bigSep Finset.univ fun d : Fin 7 => tok (F := F) c ρ d) ⊢ bigSep Finset.univ fun e : Fin 3 => tok c ρ (asDuty e) := by
  have hs : (Finset.univ : Finset (Fin 3)).map ⟨asDuty, fun a b h => Fin.ext (congrArg (fun d : Fin 7 => d.val) h)⟩ ⊆ Finset.univ := Finset.subset_univ _
  refine BIBase.Entails.trans (bigSep_subset hs) (Entails.of_eq ?_)
  rw [bigSep_map]
  rfl
/-- the first. -/
theorem toks1 (c : Dev nD) (ρ : Role) : (bigSep Finset.univ fun d : Fin 7 => tok (F := F) c ρ d) ⊢ tok c ρ 0 := bigSep_elim (Finset.mem_univ 0)
/-- Of the eight numbers', the seven others'. -/
theorem plane_others (c : Dev nD) (Φ : Fin 8 → sProp 𝕄) : bigSep Finset.univ Φ ⊢ bigSep Finset.univ fun i : Fin 7 => Φ (rr c i) := by
  rw [bigSep_plane c]
  iintro ⟨-, H⟩
  iexact H

/-- The tokens of all cells go to the devices that pay them. -/
theorem toks_paid :
    (bigSep Finset.univ fun c : Dev nD => bigSep Finset.univ fun ρ : Role => bigSep Finset.univ fun d : Fin 7 => tok (F := F) c ρ d)
      ⊢ bigSep Finset.univ fun c : Dev nD => payToks c := by
  have hbar := deal (F := F) ystep (fun c e => tok c .bar (asDuty e)) (fun c e => tok (ypeer c e) .bar (asDuty (rev e))) fun _ _ => rfl
  have hxz := deal (F := F) xzstep (fun c i => tok c .xz i) (fun c i => tok (xp c i) .xz (neg i)) fun _ _ => rfl
  have hgot := deal (F := F) gotStep (fun c e => tok c (.got e) 0) (fun c e => tok (ypeer c e) (.got e) 0) fun _ _ => rfl
  have hcame := deal (F := F) xzstep (fun c i => tok c (.came (rr c i)) 0) (fun c i => tok (xp c i) (.came (rOf c)) 0) fun c i => by
    show tok (xp c i) (.came (rr (xp c i) (neg i))) 0 = _
    rw [rr_neg]
  have hmine (c : Dev nD) : (bigSep Finset.univ fun ρ : Role => bigSep Finset.univ fun d : Fin 7 => tok (F := F) c ρ d)
      ⊢ iprop((bigSep Finset.univ fun e : Fin 3 => tok c .bar (asDuty e)) ∗ (bigSep Finset.univ fun i : Fin 7 => tok c .xz i)
        ∗ (bigSep Finset.univ fun o : Fin 4 => tok c (.fetch o) 0) ∗ (bigSep Finset.univ fun e : Fin 3 => tok c (.sent e) 0)
        ∗ (bigSep Finset.univ fun e : Fin 3 => tok c (.got e) 0)
        ∗ (bigSep Finset.univ fun i : Fin 7 => tok c (.left (rr c i)) 0) ∗ (bigSep Finset.univ fun i : Fin 7 => tok c (.came (rr c i)) 0)) := by
    rw [bigSep_role]
    exact BI.sep_mono (toks3 c _) (BI.sep_mono (BI.Entails.refl _) (BI.sep_mono (bigSep_mono fun _ _ => toks1 c _) (BI.sep_mono (bigSep_mono fun _ _ => toks1 c _)
      (BI.sep_mono (bigSep_mono fun _ _ => toks1 c _) (BI.sep_mono
        (BIBase.Entails.trans (plane_others c _) (bigSep_mono fun _ _ => toks1 c _)) (BIBase.Entails.trans (plane_others c _) (bigSep_mono fun _ _ => toks1 c _)))))))
  refine BIBase.Entails.trans (bigSep_mono fun c _ => hmine c) (Entails.of_eq ?_)
  unfold payToks
  simp only [bigSep_sep']
  rw [hbar, hxz, hgot, hcame]

/-! ## Records -/

/-- What the launch's ghost state deals device `c`. -/
def G (c : Dev nD) : sProp 𝕄 :=
  iprop((bigSep Finset.univ fun ρ : Role => roundState ER (rd m) (cell c ρ) 0)
    ∗ (bigSep Finset.univ fun ρ : Role => reached ER (cell c ρ) 0) ∗ (bigSep Finset.univ fun ρ : Role => pos c ρ)
    ∗ (bigSep Finset.univ fun ρ : Role => bigSep Finset.univ fun d : Fin 7 => tok c ρ d))

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun ρ : Role => Φ (cell c ρ) := by
    unfold allCells; rw [bigSep_map, bigSep_univ_prod]; rfl
  have hT : bigSep allToks (fun x => (dutyTok ER x.1 x.2.1 x.2.2 : sProp 𝕄))
      = bigSep Finset.univ fun c : Dev nD => bigSep Finset.univ fun ρ : Role => bigSep Finset.univ fun d : Fin 7 => tok c ρ d := by
    unfold allToks; rw [bigSep_map, bigSep_univ_prod]
    exact bigSep_congr fun c _ => by rw [bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

/-- What every device knows of all the cells, but their order. -/
def records (K : Dev nD × Role → ℕ) : sProp 𝕄 :=
  iprop((bigSep Finset.univ fun x : Dev nD × Role => cellInv ER (rd m) (K x) (cell x.1 x.2))
    ∗ (bigSep Finset.univ fun x : Dev nD × Role => reached ER (cell x.1 x.2) 0))

instance records_persistent (K : Dev nD × Role → ℕ) : BI.Persistent (records m K) := by unfold records; infer_instance

/-- What device `c` holds once the cells are set up. -/
def G' (c : Dev nD) : sProp 𝕄 := iprop(∃ K, records m K ∗ (bigSep Finset.univ fun ρ : Role => pos c ρ) ∗ payToks c)

/-- The semaphores by number: the barrier is the launch's, the rest the kernel's own. -/
abbrev osem : Fin 27 → SemLoc sig := fun k => (roleEquiv k.succ).sem

theorem sems_eq (c : Dev nD) :
    (iprop(Pipeline.ownSems0 (Ix := Unit) (Name := ℕ) (U := UU) (Lvl := ℕ) (Val := Elt F) (τ := τ) osem c ∗ unscopedSems0 c) : sProp 𝕄)
      = bigSep Finset.univ fun ρ : Role => zer c ρ := by
  rw [bigSep_univ_equiv roleEquiv, bigSep_univ_succ]
  have hu : (unscopedSems0 c : sProp 𝕄) = zer c (roleEquiv 0) := by
    unfold unscopedSems0; rw [bigSep_eq_bigSepL_of_eq [SemLoc.reg (1 : Fin 2)] (by decide) (by decide)]; rfl
  have ho : (Pipeline.ownSems0 (Ix := Unit) (Name := ℕ) (U := UU) (Lvl := ℕ) (Val := Elt F) (τ := τ) osem c : sProp 𝕄)
      = bigSep Finset.univ fun k : Fin 27 => zer c (roleEquiv k.succ) := rfl
  rw [hu, ho]
  have hswap (A B : sProp 𝕄) : iprop(A ∗ B) ⊢ iprop(B ∗ A) := by iintro ⟨H1, H2⟩; isplitl [H2] <;> iassumption
  exact BI.Entails.antisymm (hswap _ _) (hswap _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ρ : Role => iprop(∃ κ : ℕ, cellInv ER (rd m) κ (cell c ρ)))
          ∗ (bigSep Finset.univ fun ρ : Role => reached ER (cell c ρ) 0) ∗ (bigSep Finset.univ fun ρ : Role => pos c ρ)
          ∗ (bigSep Finset.univ fun ρ : Role => bigSep Finset.univ fun d : Fin 7 => tok c ρ d)) := by
  have hinv : iprop((bigSep Finset.univ fun ρ : Role => zer c ρ) ∗ bigSep Finset.univ fun ρ : Role => roundState ER (rd m) (cell c ρ) 0)
      ⊢ (|={Set.univ}=> bigSep Finset.univ fun ρ : Role => iprop(∃ κ : ℕ, cellInv ER (rd m) κ (cell c ρ)) : sProp 𝕄) := by
    rw [← bigSep_sep']
    exact (bigSep_mono fun ρ _ => (Rounds.body_intro ER (rd m) (cell c ρ)).trans inv_alloc).trans (bigSep_fupd _ _)
  unfold G
  iintro ⟨Hos, Hus, Hst, Hr, Hat, Htok⟩
  ihave Hv := (Entails.of_eq (sems_eq (F := F) c)) $$ [Hos Hus]
  · isplitl [Hos] <;> iassumption
  imod hinv $$ [Hv Hst] with Hinv
  · isplitl [Hv] <;> iassumption
  imodintro
  isplitl [Hinv]; · iexact Hinv
  isplitl [Hr]; · iexact Hr
  isplitl [Hat]; · iexact Hat
  iexact Htok

/-- A persistent fact goes to every index. -/
theorem give_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun ρ : Role => iprop(∃ κ : ℕ, cellInv ER (rd m) κ (cell c ρ)))
          ∗ (bigSep Finset.univ fun ρ : Role => reached ER (cell c ρ) 0) ∗ (bigSep Finset.univ fun ρ : Role => pos c ρ)
          ∗ (bigSep Finset.univ fun ρ : Role => bigSep Finset.univ fun d : Fin 7 => tok c ρ d)) : sProp 𝕄)
      ⊢ bigSep Finset.univ (G' m) := by
  rw [bigSep_sep', bigSep_sep', bigSep_sep', ← bigSep_univ_prod (fun x : Dev nD × Role => iprop(∃ κ : ℕ, cellInv ER (rd m) κ (cell x.1 x.2))),
    ← bigSep_univ_prod (fun x : Dev nD × Role => (reached ER (cell x.1 x.2) 0 : sProp 𝕄))]
  iintro ⟨HI, #HR, Hat, Htok⟩
  ihave HK := (BI.bigSep_exists_pi Finset.univ (fun (x : Dev nD × Role) (κ : ℕ) => (cellInv ER (rd m) κ (cell x.1 x.2) : sProp 𝕄))) $$ HI
  icases HK with ⟨%K, #HI⟩
  ihave Htk := (toks_paid (F := F)) $$ Htok
  have hg : iprop(records m K ∗ bigSep Finset.univ fun c : Dev nD => iprop((bigSep Finset.univ fun ρ : Role => pos c ρ) ∗ payToks c)) ⊢ bigSep Finset.univ (G' m) :=
    give_all fun c _ => by
      unfold G'
      iintro ⟨#Hrec, H⟩
      iexists K
      isplitr; · iexact Hrec
      iexact H
  iapply hg
  isplitr
  · unfold records; isplitl; · iexact HI
    iexact HR
  · iapply (zip (fun c : Dev nD => bigSep Finset.univ fun ρ : Role => pos c ρ) payToks)
    isplitl [Hat]; · iexact Hat
    iexact Htk

/-- The launch's step on all devices at once. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-! ## Credits -/

/-- When every device owes `n` units to one cell of one other, each device is dealt the credit of what it is owed. -/
theorem cred_of_perm (σ : Equiv.Perm (Dev nD)) (r : Dev nD → Role) (n : Nat) (c : Dev nD) :
    (Pipeline.launchCred (fun d => tallyAt (cell (σ d) (r d)) () n) c : sProp 𝕄) ⊢ crd c (r (σ.symm c)) n := by
  have h : tallyOn (cell c (r (σ.symm c))) (launchCredit (Pipeline.owing fun d : Dev nD => (tallyAt (cell (σ d) (r d)) () n : CellTallies nD τ sig Unit)) 0 (cell c (r (σ.symm c))))
      = (tallyAt (cell c (r (σ.symm c))) () n : CellTallies nD τ sig Unit) := by
    unfold tallyAt; refine congrArg _ (Finsupp.ext fun u => ?_); cases u
    rw [Pipeline.launchCredit_owing, Finsupp.single_eq_same, Finset.sum_eq_single (σ.symm c)]
    · show tallyAt _ () n _ () = n
      rw [tallyAt_apply, if_pos ⟨by rw [Equiv.apply_symm_apply], rfl⟩]
    · intro d _ hd
      show tallyAt _ () n _ () = 0
      rw [tallyAt_apply, if_neg fun h => hd (by rw [(cell_inj h.1).1, Equiv.symm_apply_apply])]
    · exact fun h => absurd (Finset.mem_univ _) h
  have h2 := Pipeline.launchCred_elim (U := UU) (Name := ℕ) (Val := Elt F) (Lvl := ℕ) (fun d : Dev nD => (tallyAt (cell (σ d) (r d)) () n : CellTallies nD τ sig Unit)) c (r (σ.symm c)).sem
  refine h2.trans (Entails.of_eq ?_)
  rw [h]

theorem due_sum {ι : Type} [Fintype ι] [DecidableEq ι] (g : ι → GSem nD τ sig) (n : Nat) (l : List ι) (hl : l.Nodup) (hu : l.toFinset = Finset.univ) :
    due g n l = ∑ i, tallyAt (g i) () n := by
  rw [← hu, List.sum_toFinset _ hl]; rfl

/-- One unit from each of `k` is `k` units. -/
theorem crd_units (c : Dev nD) (ρ : Role) : ∀ k : Nat, (bigSep Finset.univ fun _ : Fin k => crd (F := F) c ρ 1) = crd c ρ k
  | 0 => by
    show bigSep ∅ _ = _
    rw [bigSep_empty, crd, tallyAt_zero, cred_zero]; rfl
  | k + 1 => by
    rw [bigSep_univ_succ, crd_units c ρ k, Nat.add_comm k 1, crd, crd, crd, ← tallyAt_add]
    exact BI.Entails.antisymm (cred_add _ _).2 (cred_add _ _).1

/-- Negation as a permutation of the steps. -/
def negPerm : Equiv.Perm (Fin 7) := ⟨neg, neg, neg_neg', neg_neg'⟩

theorem creds (c : Dev nD) :
    (Pipeline.launchCred O₀ c : sProp 𝕄) ⊢ iprop(crd c .bar 3 ∗ crd c .xz 7 ∗ (bigSep Finset.univ fun e : Fin 3 => crd c (.got e) nRow)
      ∗ (bigSep Finset.univ fun i : Fin 7 => crd c (.came (rr c i)) nBand)) := by
  have hbar : (Pipeline.launchCred (fun d => dueBar d steps3) c : sProp 𝕄) ⊢ crd c .bar 3 := by
    rw [show (fun d => dueBar d steps3) = fun d => ∑ e : Fin 3, (tallyAt (cell (ypeer d e) .bar) () 1 : CellTallies nD τ sig Unit) from
      funext fun d => due_sum _ _ _ (by decide) (by decide), Pipeline.launchCred_sum, ← crd_units]
    exact bigSep_mono fun e _ => cred_of_perm (yring e) (fun _ => .bar) 1 c
  have hxz : (Pipeline.launchCred (fun d => dueXz d seven) c : sProp 𝕄) ⊢ crd c .xz 7 := by
    rw [show (fun d => dueXz d seven) = fun d => ∑ i : Fin 7, (tallyAt (cell (xp d i) .xz) () 1 : CellTallies nD τ sig Unit) from
      funext fun d => due_sum _ _ _ (by decide) (by decide), Pipeline.launchCred_sum, ← crd_units]
    exact bigSep_mono fun i _ => cred_of_perm (xzring i) (fun _ => .xz) 1 c
  have hrow : (Pipeline.launchCred (fun d => dueRow d steps3) c : sProp 𝕄) ⊢ bigSep Finset.univ fun e : Fin 3 => crd c (.got e) nRow := by
    rw [show (fun d => dueRow d steps3) = fun d => ∑ e : Fin 3, (tallyAt (cell (ypeer d e) (.got e)) () nRow : CellTallies nD τ sig Unit) from
      funext fun d => due_sum _ _ _ (by decide) (by decide), Pipeline.launchCred_sum]
    exact bigSep_mono fun e _ => cred_of_perm (yring e) (fun _ => .got e) nRow c
  have hband : (Pipeline.launchCred (fun d => dueBand d seven) c : sProp 𝕄) ⊢ bigSep Finset.univ fun i : Fin 7 => crd c (.came (rr c i)) nBand := by
    rw [show (fun d => dueBand d seven) = fun d => ∑ i : Fin 7, (tallyAt (cell (xp d i) (.came (rOf d))) () nBand : CellTallies nD τ sig Unit) from
      funext fun d => due_sum _ _ _ (by decide) (by decide), Pipeline.launchCred_sum, bigSep_univ_equiv negPerm]
    exact bigSep_mono fun i _ => cred_of_perm (xzring (neg i)) (fun d => .came (rOf d)) nBand c |>.trans (Entails.of_eq (by
      show crd c (.came (rOf (xp c (neg (neg i))))) nBand = _
      rw [neg_neg']; rfl))
  have hall : (Pipeline.launchCred O₀ c : sProp 𝕄) = iprop(((Pipeline.launchCred (fun d => dueBand d seven) c ∗ Pipeline.launchCred (fun d => dueRow d steps3) c)
      ∗ Pipeline.launchCred (fun d => dueXz d seven) c) ∗ Pipeline.launchCred (fun d => dueBar d steps3) c) := by
    rw [← Pipeline.launchCred_add, ← Pipeline.launchCred_add, ← Pipeline.launchCred_add]; rfl
  rw [hall]
  iintro ⟨⟨⟨H1, H2⟩, H3⟩, H4⟩
  isplitl [H4]; · iapply hbar; iexact H4
  isplitl [H3]; · iapply hxz; iexact H3
  isplitl [H2]; · iapply hrow; iexact H2
  iapply hband; iexact H1

end Cert.KernelIdeal.Hand

end
-- ==== Proof.Edges.lean ====
/- Between the launch and the body: whole buffers are cut into the slots, bands and shares that the body works with, and
   put together again when it ends. -/
module

public import proofs.«01_k».proof.Proof.Deal
public import Idealize.ShloMosaic.Lib.Ring

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Buffers whole and in pieces -/

theorem slots_cover {n : Nat} : (Finset.univ : Finset (Fin n)).biUnion slot = Finset.univ :=
  Finset.eq_univ_iff_forall.mpr fun j => Finset.mem_biUnion.mpr ⟨slotOf j, Finset.mem_univ _, mem_slot j⟩
theorem bands_cover : (Finset.univ : Finset (Fin 8)).biUnion band = Finset.univ :=
  Finset.eq_univ_iff_forall.mpr fun j => Finset.mem_biUnion.mpr ⟨bandOf j, Finset.mem_univ _, mem_band j⟩

/-- Each buffer of blocks is its slots, and the result buffer its bands. -/
theorem l_slots (c : Dev nD) (f : (stack 4).Idx → Elt F .f32) :
    (((c : Thread nD τ).loc cc0_scratch0) ↦{fullShare} f : sProp 𝕄) = bigSep Finset.univ fun o : Fin 4 => lAt c o f :=
  Ring.pointsTo_blocks (ℓ := (c : Thread nD τ).loc cc0_scratch0) (fun o : Fin 4 => slot (n := 4) o) slot_disjoint slots_cover f
theorem s_slots (c : Dev nD) (f : (stack 3).Idx → Elt F .bf16) :
    (((c : Thread nD τ).loc cc0_scratch1) ↦{fullShare} f : sProp 𝕄) = bigSep Finset.univ fun e : Fin 3 => sAt c e f :=
  Ring.pointsTo_blocks (ℓ := (c : Thread nD τ).loc cc0_scratch1) (fun o : Fin 3 => slot (n := 3) o) slot_disjoint slots_cover f
theorem r_slots (c : Dev nD) (f : (stack 3).Idx → Elt F .bf16) :
    (((c : Thread nD τ).loc cc0_scratch2) ↦{fullShare} f : sProp 𝕄) = bigSep Finset.univ fun e : Fin 3 => rAt c e f :=
  Ring.pointsTo_blocks (ℓ := (c : Thread nD τ).loc cc0_scratch2) (fun o : Fin 3 => slot (n := 3) o) slot_disjoint slots_cover f
theorem g_slots (c : Dev nD) (f : (stack 8).Idx → Elt F .bf16) :
    (((c : Thread nD τ).loc cc0_scratch3) ↦{fullShare} f : sProp 𝕄) = bigSep Finset.univ fun s : Fin 8 => gAt c s fullShare f :=
  Ring.pointsTo_blocks (ℓ := (c : Thread nD τ).loc cc0_scratch3) (fun o : Fin 8 => slot (n := 8) o) slot_disjoint slots_cover f
theorem o_bands (c : Dev nD) (f : S512x512.Idx → Elt F .f32) :
    (((c : Thread nD τ).loc cc0_stg1_0) ↦{fullShare} f : sProp 𝕄) = bigSep Finset.univ fun s : Fin 8 => oAt c s f :=
  Ring.pointsTo_blocks (ℓ := (c : Thread nD τ).loc cc0_stg1_0) band band_disjoint bands_cover f

/-- What of the part no copy reads, while the copies' shares are lent. -/
def kept (c : Dev nD) : sProp 𝕄 :=
  bigSep Finset.univ fun o : Fin 4 => ((c : Thread nD τ).loc main_arg0) ↦[Finset.univ \ partSet c o]{quarter o} (partV m c)

/-- The part whole is the blocks lent to the copies, each by a quarter, and what is kept. -/
theorem part_lent (c : Dev nD) :
    (((c : Thread nD τ).loc main_arg0) ↦{fullShare} (partV m c) : sProp 𝕄) = iprop((bigSep Finset.univ fun o : Fin 4 => pAt m c o) ∗ kept m c) := by
  unfold kept
  rw [← bigSep_sep', pointsTo_piecesOf (ℓ := (c : Thread nD τ).loc main_arg0) Finset.univ (partV m c) (by decide : 0 < 4) fullShare]
  exact bigSep_congr fun o _ => BI.Entails.antisymm (pointsTo_split_subset (Finset.subset_univ (partSet c o))).1
    (pointsTo_split_subset (Finset.subset_univ (partSet c o))).2

/-! ## Into the body -/

/-- Pieces at known contents are pieces at some contents. -/
theorem some_each {ι B : Type} [Fintype ι] (Φ : ι → B → sProp 𝕄) (f : B) :
    (bigSep Finset.univ fun i => Φ i f) ⊢ bigSep Finset.univ fun i => iprop(∃ g, Φ i g) := by
  have h (i : ι) : Φ i f ⊢ iprop(∃ g, Φ i g) := by iintro H; iexists f; iexact H
  exact bigSep_mono fun i _ => h i

/-- Reversal as a permutation of the steps along y. -/
def revPerm : Equiv.Perm (Fin 3) := ⟨rev, rev, rev_rev, rev_rev⟩

/-- What device `c` starts with: every buffer, its positions, the tokens it pays with and its credits. -/
def entry (c : Dev nD) : sProp 𝕄 :=
  iprop((bigSep Finset.univ fun ρ : Role => pos c ρ) ∗ payToks c
    ∗ (crd c .bar 3 ∗ crd c .xz 7 ∗ (bigSep Finset.univ fun e : Fin 3 => crd c (.got e) nRow) ∗ (bigSep Finset.univ fun i : Fin 7 => crd c (.came (rr c i)) nBand))
    ∗ (((c : Thread nD τ).loc main_arg0) ↦{fullShare} (partV m c)) ∗ Pipeline.scopedRest spec0 c ∗ gammaAt m c
    ∗ (∃ f, ((c : Thread nD τ).loc cc0_stg1_0) ↦{fullShare} f))

theorem enter (c : Dev nD) : entry m c ⊢ iprop(bodyIn m c ∗ kept m c) := by
  have hl (f : (stack 4).Idx → Elt F .f32) : (((c : Thread nD τ).loc cc0_scratch0) ↦{fullShare} f : sProp 𝕄) ⊢ bigSep Finset.univ fun o : Fin 4 => lAny c o := by
    rw [l_slots]; exact some_each _ f
  have hs (f : (stack 3).Idx → Elt F .bf16) : (((c : Thread nD τ).loc cc0_scratch1) ↦{fullShare} f : sProp 𝕄) ⊢ bigSep Finset.univ fun e : Fin 3 => sAny c e := by
    rw [s_slots]; exact some_each _ f
  have hr (f : (stack 3).Idx → Elt F .bf16) : (((c : Thread nD τ).loc cc0_scratch2) ↦{fullShare} f : sProp 𝕄) ⊢ bigSep Finset.univ fun e : Fin 3 => rAny c (rev e) := by
    rw [r_slots, bigSep_univ_equiv revPerm]; exact some_each _ f
  have hg (f : (stack 8).Idx → Elt F .bf16) : (((c : Thread nD τ).loc cc0_scratch3) ↦{fullShare} f : sProp 𝕄)
      ⊢ iprop(gAny c (rOf c) ∗ bigSep Finset.univ fun i : Fin 7 => gAny c (rr c i)) := by
    rw [g_slots, ← bigSep_plane c (fun s => gAny c s)]; exact some_each _ f
  have ho (f : S512x512.Idx → Elt F .f32) : (((c : Thread nD τ).loc cc0_stg1_0) ↦{fullShare} f : sProp 𝕄)
      ⊢ iprop(oAny c (rOf c) ∗ bigSep Finset.univ fun i : Fin 7 => oAny c (rr c i)) := by
    rw [o_bands, ← bigSep_plane c (fun s => oAny c s)]; exact some_each _ f
  unfold entry bodyIn payToks fetchA barA xzA peerA
  rw [part_lent, bigSep_role, bigSep_plane c (fun s => pos c (.left s)), bigSep_plane c (fun s => pos c (.came s)),
    bigSep_univ_succ (fun o : Fin 4 => pos (F := F) c (.fetch o)), scopedRest0_eq]
  simp only [bigSep_sep']
  iintro ⟨⟨Pbar, Pxz, ⟨Pf0, Pf⟩, Ps, Pg, ⟨Pl0, Pl⟩, Pc0, Pc⟩, ⟨Tb, Tx, Tf, Ts, Tg, Tl, Tc⟩, ⟨Cb, Cx, Cg, Cc⟩, ⟨Hp, Hk⟩, ⟨⟨%f0, B0⟩, ⟨%f1, B1⟩, ⟨%f2, B2⟩, ⟨%f3, B3⟩⟩, Hgam, ⟨%fo, Bo⟩⟩
  ihave L := (hl f0) $$ B0
  ihave S := (hs f1) $$ B1
  ihave R := (hr f2) $$ B2
  ihave G := (hg f3) $$ B3
  icases G with ⟨G0, G⟩
  ihave O := (ho fo) $$ Bo
  icases O with ⟨O0, O⟩
  isplitr [Hk]
  swap
  · iexact Hk
  isplitl [Hp L Tf]
  · isplitl [Hp]; · iexact Hp
    isplitl [L]; · iexact L
    iexact Tf
  isplitl [R Tb]
  · isplitl [R]; · iexact R
    iexact Tb
  isplitl [G Tx]
  · isplitl [G]; · iexact G
    iexact Tx
  isplitl [Pf S]
  · isplitl [Pf]; · iexact Pf
    iexact S
  isplitl [Cb Pbar]
  · isplitl [Cb]; · iexact Cb
    iexact Pbar
  isplitl [Ts Tg]
  · isplitl [Ts]; · iexact Ts
    iexact Tg
  isplitl [Pf0]; · iexact Pf0
  isplitl [Cg Pg]
  · isplitl [Cg]; · iexact Cg
    iexact Pg
  isplitl [Hgam]; · iexact Hgam
  isplitl [G0]; · iexact G0
  isplitl [Cx Pxz]
  · isplitl [Cx]; · iexact Cx
    iexact Pxz
  isplitl [Tl Tc]
  · isplitl [Tl]; · iexact Tl
    iexact Tc
  isplitl [O0]; · iexact O0
  isplitl [Cc Pc O]
  · isplitl [Cc]; · iexact Cc
    isplitl [Pc]; · iexact Pc
    iexact O
  isplitl [Ps]; · iexact Ps
  isplitl [Pl]; · iexact Pl
  isplitl [Pl0]; · iexact Pl0
  iexact Pc0

/-! ## Out of the body -/

/-- What device `c` ends with: the semaphores at zero, the part as it was, every buffer whole. -/
def leaving (c : Dev nD) : sProp 𝕄 :=
  iprop(unscopedSems0 c ∗ Pipeline.ownSems0 (Ix := Unit) (Name := ℕ) (U := UU) (Lvl := ℕ) (Val := Elt F) (τ := τ) osem c
    ∗ (((c : Thread nD τ).loc main_arg0) ↦{fullShare} (partV m c)) ∗ Pipeline.scopedRest spec0 c)

theorem leave (c : Dev nD) :
    iprop(bodyOut m c ∗ kept m c) ⊢ iprop(leaving m c ∗ gammaAt m c ∗ (((c : Thread nD τ).loc cc0_stg1_0) ↦{fullShare} (outV m c))) := by
  have hsems : (bigSep Finset.univ fun ρ : Role => zer c ρ)
      ⊢ (iprop(unscopedSems0 c ∗ Pipeline.ownSems0 (Ix := Unit) (Name := ℕ) (U := UU) (Lvl := ℕ) (Val := Elt F) (τ := τ) osem c) : sProp 𝕄) := by
    rw [← sems_eq]; iintro ⟨H1, H2⟩; isplitl [H2] <;> iassumption
  unfold leaving bodyOut fetched rowLeftB peerB
  rw [part_lent, o_bands, scopedRest0_eq, bigSep_plane c (fun s => oAt c s (outV m c))]
  simp only [bigSep_sep']
  iintro ⟨⟨⟨Zf, L, Hp⟩, ⟨Zs, S⟩, ⟨Zg, R⟩, Hgam, G0, O0, Zl, ⟨O, Zc, G⟩, Zbar, Zxz, Zl0, Zc0⟩, Hk⟩
  ihave Z := (show iprop(zer c .bar ∗ zer c .xz ∗ (bigSep Finset.univ fun o : Fin 4 => zer c (.fetch o))
      ∗ (bigSep Finset.univ fun e : Fin 3 => zer c (.sent e)) ∗ (bigSep Finset.univ fun e : Fin 3 => zer c (.got e))
      ∗ (zer c (.left (rOf c)) ∗ bigSep Finset.univ fun i : Fin 7 => zer c (.left (rr c i)))
      ∗ (zer c (.came (rOf c)) ∗ bigSep Finset.univ fun i : Fin 7 => zer c (.came (rr c i)))) ⊢ (bigSep Finset.univ fun ρ : Role => zer (F := F) c ρ) from by
    rw [bigSep_role, bigSep_plane c (fun s => zer c (.left s)), bigSep_plane c (fun s => zer c (.came s))]) $$ [Zf Zs Zg Zl Zc Zbar Zxz Zl0 Zc0]
  · isplitl [Zbar]; · iexact Zbar
    isplitl [Zxz]; · iexact Zxz
    isplitl [Zf]; · iexact Zf
    isplitl [Zs]; · iexact Zs
    isplitl [Zg]; · iexact Zg
    isplitl [Zl0 Zl]
    · isplitl [Zl0]; · iexact Zl0
      iexact Zl
    isplitl [Zc0]; · iexact Zc0
    iexact Zc
  ihave Z' := hsems $$ Z
  icases Z' with ⟨Zu, Zo⟩
  ihave L' := (Entails.of_eq (l_slots c (lbufV m c)).symm) $$ L
  ihave S' := (Entails.of_eq (s_slots c (sbufV m c)).symm) $$ S
  ihave R' := (Entails.of_eq (r_slots c (rbufV m c)).symm) $$ R
  ihave G' := (show iprop(gAt c (rOf c) fullShare (gbufV m c) ∗ bigSep Finset.univ fun i : Fin 7 => gAt c (rr c i) fullShare (gbufV m c))
      ⊢ ((c : Thread nD τ).loc cc0_scratch3) ↦{fullShare} (gbufV m c) from by
    rw [g_slots, bigSep_plane c (fun s => gAt c s fullShare (gbufV m c))]) $$ [G0 G]
  · isplitl [G0]; · iexact G0
    iexact G
  isplitl [Zu Zo L' S' R' G' Hp Hk]
  · isplitl [Zu]; · iexact Zu
    isplitl [Zo]; · iexact Zo
    isplitl [Hp Hk]
    · isplitl [Hp]; · iexact Hp
      iexact Hk
    isplitl [L']; · iexists _; iexact L'
    isplitl [S']; · iexists _; iexact S'
    isplitl [R']; · iexists _; iexact R'
    iexists _; iexact G'
  isplitl [Hgam]; · iexact Hgam
  isplitl [O0]; · iexact O0
  iexact O

end Cert.KernelIdeal.Hand

end
-- ==== Proof.Launch.lean ====
/- The whole run: every device's kernel on its share of the ghost state, the pipeline around it, and what memory holds at
   the end. -/
module

public import proofs.«01_k».proof.Proof.Edges
public import Idealize.ShloMosaic.Lib.Pipeline.CollectiveSegs
public import proofs.«01_k».proof.Proof.Gen.KernelIdeal.Launch
public import proofs.«01_k».proof.Proof.Gen.KernelIdeal.Points

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The pipeline's data -/

/-- The result array at launch. -/
def startA (c : Dev nD) (w : Fin cfg0.W) : Buf (Elt F) ((cfg0.win w).arr.view.loc (c : Thread nD τ)) := m _

/-- What device `c`'s body starts from: the cells' records, and everything it is dealt but the staged buffers. -/
def start (c : Dev nD) : sProp 𝕄 :=
  iprop(G' m c ∗ Pipeline.launchCred O₀ c ∗ levAts L lv ∗ (((c : Thread nD τ).loc main_arg0) ↦{fullShare} (partV m c)))
def before (c : Dev nD) : sProp 𝕄 := iprop(start m c ∗ Pipeline.scopedRest spec0 c)

def dats (_ : Fin 1) (c : Dev nD) : Dat τ (Elt F) Unit ℕ UU ℕ cfg0 c where
  A w := startA m c w
  after w _ := match w with
    | ⟨0, _⟩ => gammaV m c
    | ⟨1, _⟩ => outV m c
  Φ t := match t with
    | ⟨0, _⟩ => before m c
    | ⟨_ + 1, _⟩ => leaving m c
  q _ := fullShare
  owed t := match t with
    | ⟨0, _⟩ => O₀ c
    | ⟨_ + 1, _⟩ => 0

theorem whole_owned (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The staged input is `gamma`. -/
theorem gamma_staged (c : Dev nD) (d) : (dats m 0 c).before (0 : Fin 2) t0_0 d = gammaV m c := by
  have hz : (fun a => (win0_0.index (0 : Fin 1)) a * main_arg1.ty.shape.size a) = fun _ => 0 :=
    funext fun a => by fin_cases a; decide
  have hr := fun f => Memref.read_access_unit_zero (Elt F) main_arg1 hz (fun a => by fin_cases a; decide) f
  unfold Dat.before
  rw [if_pos (fetch0_0 t0_0)]
  exact hr _

/-! ## The body -/

def bodyPre (c : Dev nD) : sProp 𝕄 :=
  iprop(before m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(leaving m c ∗ (dats m 0 c).owesAt () t0_0.succ ∗ stg c cc0_stg0_0 (gammaV m c) ∗ stg c cc0_stg1_0 (outV m c))

theorem sound_body (c : Dev nD) : bodyPre m c ⊢ run c loopsAt fun _ => bodyPost m c := by
  unfold bodyPre before start G'
  iintro ⟨⟨⟨⟨%K, #Hrec, Hpos, Htok⟩, Hcr, #Hlev, Harg⟩, Hrest⟩, Ho, ⟨%d0, %g0, %hg0, Hgam⟩, ⟨%d1, %g1, %hg1, Hout⟩⟩
  have hg : g0 = gammaV m c := hg0.trans (gamma_staged m c d0)
  subst hg
  have hentry : iprop((bigSep Finset.univ fun ρ : Role => pos c ρ) ∗ payToks c ∗ Pipeline.launchCred O₀ c
      ∗ (((c : Thread nD τ).loc main_arg0) ↦{fullShare} (partV m c)) ∗ Pipeline.scopedRest spec0 c ∗ gammaAt m c
      ∗ ((c : Thread nD τ).loc cc0_stg1_0) ↦{fullShare} g1) ⊢ entry m c := by
    unfold entry
    iintro ⟨H1, H2, H3, H4, H5, H6, H7⟩
    isplitl [H1]; · iexact H1
    isplitl [H2]; · iexact H2
    isplitl [H3]; · iapply (creds c); iexact H3
    isplitl [H4]; · iexact H4
    isplitl [H5]; · iexact H5
    isplitl [H6]; · iexact H6
    iexists g1; iexact H7
  have hin := hentry.trans (enter m c)
  ihave Hin := hin $$ [Hpos Htok Hcr Harg Hrest Hgam Hout]
  · isplitl [Hpos]; · iexact Hpos
    isplitl [Htok]; · iexact Htok
    isplitl [Hcr]; · iexact Hcr
    isplitl [Harg]; · iexact Harg
    isplitl [Hrest]; · iexact Hrest
    isplitl [Hgam]; · iexact Hgam
    iexact Hout
  icases Hin with ⟨Hin, Hkept⟩
  have hO : (dats m 0 c).owesAt () t0_0.castSucc ⊢ owesE c (O₀ c) := by
    unfold Dat.owesAt Pipeline.owesWithin owesE
    iintro ⟨%W, %hW, HO⟩
    iexists W; iexact HO
  have hO' : owesE c 0 ⊢ (dats m 0 c).owesAt () t0_0.succ := by
    unfold Dat.owesAt Pipeline.owesWithin owesE
    iintro ⟨%W, HO⟩
    iexists W
    isplitr; · ipureintro; exact fun _ _ => Or.inl trivial
    iexact HO
  ihave HO := hO $$ Ho
  have hrun := body_run m K c fun _ => bodyPost m c
  iapply hrun
  isplitr
  · unfold ctx records
    icases Hrec with ⟨#H1, #H2⟩
    isplitr; · iexact H1
    isplitr; · iexact H2
    iexact Hlev
  isplitl [HO]; · iexact HO
  isplitl [Hin]; · iexact Hin
  iintro ⟨HO, Hbody⟩
  ihave Hl := (leave m c) $$ [Hbody Hkept]
  · isplitl [Hbody]; · iexact Hbody
    iexact Hkept
  icases Hl with ⟨Hl, Hgam, Hout⟩
  unfold bodyPost
  isplitl [Hl]; · iexact Hl
  isplitl [HO]; · iapply hO'; iexact HO
  isplitl [Hgam]
  · iexists _; isplitr; · (ipureintro; rfl)
    iexact Hgam
  iexists _; isplitr; · (ipureintro; rfl)
  iexact Hout

set_option maxRecDepth 4000 in
/-- The library's obligation on the body of device `c`. -/
theorem body_obligation (c : Dev nD) : BodyObligation (dats (F := F) m 0 c) (defs₀ (F := F)) 𝒱₀ () Set.univ := fun t => by
  rw [fin_N0 t, bigSep_W0, bigSep_W0]
  simp only [whole_owned]
  show bodyPre m c ⊢ wp frame (wpE (defs₀ (F := F)) 𝒱₀ c none) Set.univ
    (cc0_body (Memref.whole main_arg0) (Memref.isWhole_whole _) (Memref.whole cc0_stg0_0) (Memref.isWhole_whole _) (Memref.whole cc0_stg1_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8 cc0_scratch9) (fun _ => bodyPost m c)
  rw [body_eq_loops]
  exact sound_body m c

/-! ## The launch -/

theorem ownSemFacts : Pipeline.OwnSemFacts cfg0.spec osem := by decide

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Harg, Hlev, Hcr, -, HG⟩
  imodintro
  unfold start
  isplitl
  · isplitl [HG]; · iexact HG
    isplitl [Hcr]; · iexact Hcr
    isplitl [Hlev]; · iexact Hlev
    iexact Harg
  · iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  unfold before
  iintro ⟨Hs, -, Hr⟩
  isplitl [Hs]; · iexact Hs
  iexact Hr

/-- What is left beside the scoped memory: the runtime's semaphore at zero and the part as it was. -/
def rest (c : Dev nD) : sProp 𝕄 := iprop(unscopedSems0 c ∗ (((c : Thread nD τ).loc main_arg0) ↦{fullShare} (partV m c)))

theorem last_exit (c : Dev nD) :
    (dats m 0 c).Φ (Fin.last cfg0.N) ⊢ iprop(rest m c ∗ Pipeline.ownSems0 osem c ∗ Pipeline.scopedRest cfg0.spec c) := by
  rw [show (dats m 0 c).Φ (Fin.last cfg0.N) = leaving m c from rfl]
  unfold leaving rest
  iintro ⟨H1, H2, H3, H4⟩
  isplitl [H1 H3]
  · isplitl [H1] <;> iassumption
  isplitl [H2]; · iexact H2
  iexact H4

/-- The staging cells come before every cell the body owes. -/
theorem waits (c : Dev nD) : (levAts L lv : sProp 𝕄) ⊢ Pipeline.cellsWaits cfgs (dats m) () 0 c :=
  Pipeline.cellsWaits_intro cfgs (dats m) () 0 c fun w s t =>
    mayWait c _ _ fun g u hg => by
      have hz : lv ((c : Thread nD τ), SemLoc.dma ((cfg0.win w).sem s)) () = 0 := by
        show (roleOf (SemLoc.dma ((cfg0.win w).sem s))).elim 0 levelOf = 0
        clear hg
        fin_cases w <;> fin_cases s <;> decide
      rcases t with ⟨_ | _, ht⟩
      · obtain ⟨p, r, hp, hl⟩ := O₀_pos hg
        exact ⟨p, r, hp, lt_of_eq_of_lt hz hl⟩
      · exact absurd hg (Nat.lt_irrefl 0)

/-- The arrays after the run. -/
def finalA (c : Dev nD) (w : Fin cfg0.W) : Buf (Elt F) ((cfg0.win w).arr.view.loc (c : Thread nD τ)) := (dats m 0 c).arrAt w cfg0.N

/-- What memory and semaphores hold outside the windows' arrays. -/
def heldBy (c : Dev nD) (s : MemSt nD τ sig (Elt F)) : Prop :=
  (∀ sm : SemLoc sig, sm.isScoped .tc = false → s.sem ((c.tc : Thread nD τ), sm) = 0) ∧ s.mem ((c : Thread nD τ).loc main_arg0) = partV m c

theorem rest_read (c : Dev nD) (s' : Phys nD τ sig (Elt F)) :
    iprop(rest m c ∗ emp ∗ SI s') ⊢ |={Set.univ}=> iprop(⌜heldBy m c s'.mem⌝ ∗ SI s') := by
  have h0 : iprop((((c : Thread nD τ).loc main_arg0) ↦{fullShare} (partV m c)) ∗ SI s')
      ⊢ (iprop(⌜∀ i ∈ ({()} : Finset Unit), s'.mem.mem ((c : Thread nD τ).loc main_arg0) = partV m c⌝ ∗ SI s') : sProp 𝕄) := by
    have h := pointsTo_read_all (Ix := Unit) (Name := ℕ) (U := UU) (Lvl := ℕ) ({()} : Finset Unit) (fun _ => (c : Thread nD τ).loc main_arg0) (fun _ => partV m c) s'
    rwa [bigSep_singleton] at h
  unfold rest heldBy
  iintro ⟨⟨Hu, Ha⟩, -, HSI⟩
  ihave H := h0 $$ [Ha HSI]
  · isplitl [Ha] <;> iassumption
  icases H with ⟨%h, HSI⟩
  imod (Pipeline.unscopedSems0_read (X := unscopedSems0 c) (c := c) fupd_intro s') $$ [Hu HSI] with ⟨%h2, HSI⟩
  · isplitl [Hu] <;> iassumption
  imodintro
  isplitr; · ipureintro; exact ⟨h2, h () (Finset.mem_singleton_self _)⟩
  iexact HSI

set_option maxRecDepth 8000 in
/-- Every fair execution from any memory with zero semaphores ends, with the windows' arrays at `finalA`, the part as it was
    and every semaphore at zero. -/
theorem run_arrays (ρ : Dev nD → PrngReg) :
    θ_run defs (onTc (τ := τ) (main (F := F))) ⟨m, fun _ => 0, ρ⟩ (fun r =>
      (∀ c : Dev nD, (∀ w : Fin cfg0.W, r.2.mem ((cfg0.win w).arr.view.loc (c : Thread nD τ)) = finalA m c w) ∧ r.2.mem ((c : Thread nD τ).loc main_arg0) = partV m c)
        ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := rest m) (Z := fun _ => iprop(emp))
    (hX := start_intro m ρ) (hin := first_intro m) (hout := last_exit m)
    (QY := heldBy m)
    (hY := rest_read m)
    (hQ := fun _ h hs => ⟨fun c => ⟨(h c).1, (h c).2.2.2⟩, sem_eq_zero hs fun c => (h c).2.2.1⟩)

/-- The input array is as it was; -/
theorem final_gamma (c : Dev nD) : finalA m c (0 : Fin 2) = gammaV m c := (dats (F := F) m 0 c).arrAt_in (0 : Fin 2) rfl _

/-- the result array is what the body computed. -/
theorem final_out (c : Dev nD) : finalA m c (1 : Fin 2) = outV m c := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have h : (win0_1.blk (0 : Fin 1)).view.read (Elt F) (finalA m c (1 : Fin 2)) = outV m c := by
    unfold finalA
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  exact (hr _).symm.trans h

/-- Every fair execution ends, with each device's result at `outV`, both its arguments as they were, and every semaphore at
    zero. -/
theorem run_main (ρ : Dev nD → PrngReg) :
    θ_run defs (onTc (τ := τ) (main (F := F))) ⟨m, fun _ => 0, ρ⟩ (fun r =>
      (∀ c : Dev nD, r.2.mem (c.tc.loc main_v1) = outV m c ∧ r.2.mem (c.tc.loc main_arg0) = m (c.tc.loc main_arg0)
        ∧ r.2.mem (c.tc.loc main_arg1) = m (c.tc.loc main_arg1)) ∧ r.2.sem = fun _ => 0) :=
  (θ_run defs _ _).mono (fun _ h => ⟨fun c => ⟨((h.1 c).1 (1 : Fin 2)).trans (final_out m c), (h.1 c).2,
    ((h.1 c).1 (0 : Fin 2)).trans (final_gamma m c)⟩, h.2⟩) (run_arrays m ρ)

end Cert.KernelIdeal.Hand

end
-- ==== Proof.Block.lean ====
/- What one device computes of one band over the extended reals: four blocks added, every row divided by the root of
   its mean square, and multiplied by gamma. -/
module

public import proofs.«01_k».proof.Proof.Gen.KernelIdeal.Skeleton
public import Idealize.ShloMosaic.Lib.Pointwise

@[expose] public section

noncomputable section

namespace Cert.KernelIdeal.Hand

open Cert.KernelIdeal Cert.KernelIdeal.Gen
open Idealize.ShloMosaic

/-- The mean square of a row, with the small constant added. -/
def meanSq (y : Fin 512 → EReal) : EReal :=
  Ideal.div (∑ k, y k * y k) (Ideal.ofBits .f32 0x44000000#32) + Ideal.ofBits .f32 0x358637BD#32

/-- A row divided by the root of its mean square, and scaled, at column `l`. -/
def rowNorm (y : Fin 512 → EReal) (g : EReal) (l : Fin 512) : EReal := Ideal.div (y l) (Ideal.sqrt (meanSq y)) * g

/-- The number of columns, as the kernel writes it, is 512, -/
theorem ofBits_512 : Ideal.ofBits .f32 0x44000000#32 = ((512 : ℝ) : EReal) := by
  simp [Ideal.ofBits, Ideal.ieee, -EReal.coe_mul]; norm_num

/-- and the small constant is a positive number. -/
theorem ofBits_eps_pos : 0 < Ideal.ofBits .f32 0x358637BD#32 := by
  simp [Ideal.ofBits, Ideal.ieee, -EReal.coe_mul]

/-- A row's mean square is positive, whatever the row holds. -/
theorem meanSq_pos (y : Fin 512 → EReal) : 0 < meanSq y := by
  have hs : 0 ≤ ∑ k, y k * y k := Finset.sum_nonneg fun k _ =>
    EReal.mul_nonneg_iff.mpr ((le_total 0 (y k)).imp (fun h => ⟨h, h⟩) fun h => ⟨h, h⟩)
  have hd : 0 ≤ Ideal.div (∑ k, y k * y k) (Ideal.ofBits .f32 0x44000000#32) := by
    have h512 : (0 : EReal) < ((512 : ℝ) : EReal) := EReal.coe_pos.mpr (by norm_num)
    rw [ofBits_512]
    unfold Ideal.div
    rw [if_neg h512.ne']
    exact EReal.mul_nonneg hs (EReal.inv_nonneg_of_nonneg h512.le)
  unfold meanSq
  rw [add_comm]
  exact EReal.add_pos_of_pos_of_nonneg ofBits_eps_pos hd

/-- Of a positive number, a product with the reciprocal root is the quotient by the root. -/
theorem mul_rsqrt (x v : EReal) (hv : 0 < v) : x * Ideal.rsqrt v = Ideal.div x (Ideal.sqrt v) := by
  induction v with
  | bot => exact absurd hv (not_lt_bot)
  | top => simp [Ideal.div]
  | coe r =>
    have hr : 0 < r := EReal.coe_pos.mp hv
    have hs : (Real.sqrt r : EReal) ≠ 0 := by
      rw [← EReal.coe_zero]
      exact fun h => (Real.sqrt_pos.mpr hr).ne' (EReal.coe_injective h)
    rw [Ideal.rsqrt_coe, Ideal.sqrt_coe, if_neg hr.not_gt, if_neg hr.ne', if_neg hr.not_gt, Ideal.div, if_neg hs, EReal.coe_inv]

/-- One band: the four blocks' sum, row by row normalised and scaled. -/
theorem band_apply (a : Vec Ideal S1x64x512 .f32) (r0 r1 r2 : Vec Ideal S1x64x512 .bf16) (g : Vec Ideal S512 .f32) (i : Fin 64) (l : Fin 512) :
    k0_pay7 (k0_pay6 (k0_pay5 a) r0 r1) r2 g (ix2 i l)
      = rowNorm (fun k => a (ix3 0 i k) + r0 (ix3 0 i k) + r1 (ix3 0 i k) + r2 (ix3 0 i k)) (g (ix1 l)) l := by
  unfold rowNorm
  rw [← mul_rsqrt _ _ (meanSq_pos _)]
  pointwise [k0_pay7, k0_pay6, k0_pay5, meanSq]

/-- Sent on, it is the same numbers, -/
theorem sent_apply (b : FVec Ideal S64x512 .f32) (r : Vec Ideal S1x64x512 .bf16) (g : Vec Ideal S512 .f32) (i : Fin 64) (l : Fin 512) :
    (k0_pay8 b r g (ix3 0 i l) : EReal) = k0_pay7 b r g (ix2 i l) := by
  pointwise [k0_pay8]

/-- unchanged when it is written out, -/
theorem written_apply (a : Vec Ideal S1x64x512 .bf16) (i : Fin 64) (l : Fin 512) :
    (k0_pay9 a (ix2 i l) : EReal) = a (ix3 0 i l) := by
  pointwise [k0_pay9]

/-- and so are the blocks sent along y. -/
theorem part_apply (a : Vec Ideal S1x64x512 .f32) (i : Fin 64) (l : Fin 512) :
    (k0_pay1 a (ix3 0 i l) : EReal) = a (ix3 0 i l) := by
  pointwise [k0_pay1]

end Cert.KernelIdeal.Hand

end
-- ==== Proof.Array.lean ====
/- What the result holds over the extended reals: on every device, row r of its result is the sum of the four parts' rows
   of its quarter, normalised and scaled. -/
module

public import proofs.«01_k».proof.Proof.Contents
public import proofs.«01_k».proof.Proof.Block

@[expose] public section

noncomputable section

namespace Cert.KernelIdeal.Hand

open Cert.KernelIdeal Cert.KernelIdeal.Gen
open Idealize.ShloMosaic Idealize.SL.Sem

variable (m : (ℓ : Loc nD τ sig) → Buf (Elt Ideal) ℓ)

/-- A device's coordinate along y. -/
def yOf (c : Dev nD) : Fin 4 := ⟨c.val / 4 % 4, Nat.mod_lt _ (by decide)⟩

/-- Going round along y: the peer whose slot `e` is received stands `3 - e` further on, -/
theorem yOf_sender (c : Dev nD) (e : Fin 3) : yOf (ypeer c (rev e)) = yOf c + (rev e).succ := by revert c e; decide +kernel
/-- and sends the rows that the receiver keeps of its own part. -/
theorem rowAt_sender (c : Dev nD) (e : Fin 3) : rowAt (ypeer c (rev e)) e.succ = rowAt c 0 := by revert c e; decide +kernel
theorem rowAt_own (c : Dev nD) : rowAt c 0 = 512 * (yOf c).val + 64 * (rOf c).val := by revert c; decide +kernel
theorem yOf_pr (c : Dev nD) (s : Fin 8) : yOf (pr c s) = yOf c := by revert c s; decide +kernel
theorem rowAt_le (c : Dev nD) (o : Fin 4) : rowAt c o + 64 ≤ 2048 := by revert c o; decide +kernel

/-- Summing from any place on round the ring of four is the sum. -/
theorem ring_sum (f : Fin 4 → EReal) (y : Fin 4) : f y + f (y + 3) + f (y + 2) + f (y + 1) = ∑ k, f k := by
  rw [Fin.sum_univ_four]
  fin_cases y
  · show f 0 + f 3 + f 2 + f 1 = _
    ac_rfl
  · show f 1 + f 0 + f 3 + f 2 = _
    ac_rfl
  · show f 2 + f 1 + f 0 + f 3 = _
    ac_rfl
  · show f 3 + f 2 + f 1 + f 0 = _
    ac_rfl

/-- Row `i` of the block of the part that block `o` copies. -/
theorem partBlk_apply (d : Dev nD) (o : Fin 4) (f : S1x2048x512.Idx → EReal) (i : Fin 64) (l : Fin 512) :
    partBlk d o f (ix3 0 i l) = f (ix3 0 ⟨rowAt d o + i.val, by have := rowAt_le d o; omega⟩ l) := by
  unfold partBlk
  have ho := off1_eq d o
  refine congrArg f (funext fun a => Fin.ext ?_)
  match a with
  | ⟨0, _⟩ => exact congrArg (· + 1 * 0) (congrFun ho 0)
  | ⟨1, _⟩ =>
    show k0_off1 d (BitVec.ofNat 32 o.val) 1 + 1 * i.val = rowAt d o + i.val
    rw [ho, Nat.one_mul]
    rfl
  | ⟨2, _⟩ =>
    show k0_off1 d (BitVec.ofNat 32 o.val) 2 + 1 * l.val = l.val
    rw [ho, Nat.one_mul]
    exact Nat.zero_add _

/-- What slot `e` holds after the exchange: the sender's rows. -/
theorem received_apply (c : Dev nD) (e : Fin 3) (i : Fin 64) (l : Fin 512) :
    (blockAt (rbufV m c) e (ix3 0 i l) : EReal)
      = partV m (ypeer c (rev e)) (ix3 0 ⟨rowAt c 0 + i.val, by have := rowAt_le c 0; omega⟩ l) := by
  rw [blockAt_rbufV, blockAt_sbufV, part_apply, blockAt_lbufV, partBlk_apply]
  congr 2
  exact Fin.ext (congrArg (· + i.val) (rowAt_sender c e))

/-- The devices hold the array `X` cut along its first axis by y, and each the vector `g`. -/
structure Holds (X : (⟨3, ![4, 2048, 512]⟩ : Shape).Idx → EReal) (g : S512.Idx → EReal) : Prop where
  part : ∀ c i l, partV m c (ix3 0 i l) = X (ix3 (yOf c) i l)
  gamma : ∀ c, gammaV m c = g

/-- What the whole result holds at row `r`, column `l`. -/
def wholeAt (X : (⟨3, ![4, 2048, 512]⟩ : Shape).Idx → EReal) (g : S512.Idx → EReal) (r : Fin 2048) (l : Fin 512) : EReal :=
  rowNorm (fun k => ∑ y : Fin 4, X (ix3 y r k)) (g (ix1 l)) l

variable {m} {X : (⟨3, ![4, 2048, 512]⟩ : Shape).Idx → EReal} {g : S512.Idx → EReal}

/-- The band that a device computes. -/
theorem normedV_apply (h : Holds m X g) (c : Dev nD) (i : Fin 64) (l : Fin 512) :
    normedV m c (ix2 i l) = wholeAt X g ⟨rowAt c 0 + i.val, by have := rowAt_le c 0; omega⟩ l := by
  unfold normedV wholeAt
  rw [band_apply, h.gamma]
  congr 1
  funext k
  rw [received_apply, received_apply, received_apply, blockAt_lbufV, partBlk_apply, h.part, h.part, h.part, h.part,
    yOf_sender, yOf_sender, yOf_sender]
  exact ring_sum (fun y => X (ix3 y _ k)) (yOf c)

/-- A gathered band is the band its device computed. -/
theorem gathered_apply (c : Dev nD) (s : Fin 8) (i : Fin 64) (l : Fin 512) :
    (k0_pay9 (blockAt (gbufV m c) s) (ix2 i l) : EReal) = normedV m (pr c s) (ix2 i l) := by
  rw [written_apply, blockAt_gbufV]
  exact sent_apply _ _ _ i l

/-- So every band of the result is the one computed by the device of that number in the plane, -/
theorem outV_band (c : Dev nD) (j : S512x512.Idx) : outV m c j = normedV m (pr c (bandOf j)) (inBand j) := by
  unfold outV
  split
  · next h => rw [h, pr_rOf]
  · next h =>
    rw [eq_ix2 (inBand j)]
    exact gathered_apply c (bandOf j) _ _

/-- and row `r` of device `c`'s result is the whole result's row `r` of the quarter of `c`. -/
theorem outV_apply (h : Holds m X g) (c : Dev nD) (r l : Fin 512) :
    outV m c (ix2 r l) = wholeAt X g ⟨512 * (yOf c).val + r.val, by have := (yOf c).isLt; omega⟩ l := by
  have hb : inBand (ix2 r l) = ix2 (⟨r.val % 64, Nat.mod_lt _ (by decide)⟩ : Fin 64) l := eq_ix2 _
  rw [outV_band, hb, normedV_apply h]
  congr 1
  apply Fin.ext
  show rowAt (pr c (bandOf (ix2 r l))) 0 + r.val % 64 = 512 * (yOf c).val + r.val
  rw [rowAt_own, yOf_pr, rOf_pr]
  show 512 * (yOf c).val + 64 * (r.val / 64) + r.val % 64 = _
  omega

end Cert.KernelIdeal.Hand

end
-- ==== Proof.RefValue.lean ====
/- What the reference computes over the extended reals, and the run that computes it. -/
module

public import proofs.«01_k».proof.Proof.Gen.ReferenceIdeal.Run
public import proofs.«01_k».proof.Proof.Block
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.SL.Sem

/-- The parts, summed. -/
def sumV (X : FVec Ideal S4x2048x512 .f32) : FVec Ideal S2048x512 .f32 :=
  Host.reduceAdd X (constant S_ .f32 0x00000000#32) reducesTo_S4x2048x512_S2048x512_d0 h_S_

/-- The reference's result, of its two arguments. -/
def refV (X : FVec Ideal S4x2048x512 .f32) (g : FVec Ideal S512 .f32) : FVec Ideal S2048x512 .f32 :=
  mulf (Host.divf (sumV X) (broadcastInDim S2048x512 ![0, 1] bcast_S2048x1_S2048x512_0_1 (Host.sqrt (addf
    (Host.divf (broadcastInDim S2048x1 ![0] bcast_S2048_S2048x1_0
        (Host.reduceAdd (mulf (sumV X) (sumV X)) (constant S_ .f32 0x00000000#32) reducesTo_S2048x512_S2048_d1 h_S_))
      (broadcastInDim S2048x1 ![] bcast_S_S2048x1 (constant S_ .f32 0x44000000#32)))
    (broadcastInDim S2048x1 ![] bcast_S_S2048x1 (constant S_ .f32 0x358637BD#32))))))
    (broadcastInDim S2048x512 ![0, 1] bcast_S1x512_S2048x512_0_1 (broadcastInDim S1x512 ![1] bcast_S512_S1x512_1 g))

/-- The sum at row `r`, column `l`. -/
theorem sumV_apply (X : FVec Ideal S4x2048x512 .f32) (r : Fin 2048) (l : Fin 512) :
    sumV X (ix2 r l) = ∑ y : Fin 4, X (ix3 y r l) := by
  pointwise [sumV]

/-- The result at row `r`, column `l`: the row of sums divided by the root of its mean square, times gamma. -/
theorem refV_apply (X : FVec Ideal S4x2048x512 .f32) (g : FVec Ideal S512 .f32) (r : Fin 2048) (l : Fin 512) :
    refV X g (ix2 r l) = Cert.KernelIdeal.Hand.rowNorm (fun k => ∑ y : Fin 4, X (ix3 y r k)) (g (ix1 l)) l := by
  have h : refV X g (ix2 r l) = Cert.KernelIdeal.Hand.rowNorm (fun k => sumV X (ix2 r k)) (g (ix1 l)) l := by
    pointwise [refV, Cert.KernelIdeal.Hand.rowNorm, Cert.KernelIdeal.Hand.meanSq]
  rw [h]
  exact congrArg (fun y => Cert.KernelIdeal.Hand.rowNorm y (g (ix1 l)) l) (funext fun k => sumV_apply X r k)

/-- Every fair execution of the reference ends with that result, its arguments as they were and every semaphore at zero. -/
theorem run_main (m : (ℓ : Loc nD τ sig) → Buf (Elt Ideal) ℓ) (ρ : Dev nD → PrngReg) :
    θ_run defs (onTc (τ := τ) (main (F := Ideal))) ⟨m, fun _ => 0, ρ⟩ (fun r =>
      (∀ c : Dev nD, r.2.mem (c.tc.loc main_v13) = refV (m (c.tc.loc main_arg0)) (m (c.tc.loc main_arg1))
        ∧ r.2.mem (c.tc.loc main_arg0) = m (c.tc.loc main_arg0) ∧ r.2.mem (c.tc.loc main_arg1) = m (c.tc.loc main_arg1))
      ∧ r.2.sem = fun _ => 0) :=
  (θ_run defs _ _).mono (fun r h => ⟨h, sem_eq_zero_of_no_sems (by decide) r.2⟩) (Cert.ReferenceIdeal.Value.run m ρ)

end Cert.ReferenceIdeal.Hand

end
-- ==== Proof.Equation.lean ====
/- The equation: every device's result is its block of the reference's. -/
module

public import proofs.«01_k».proof.Proof.Array
public import proofs.«01_k».proof.Proof.RefValue
public import Idealize.ShloMosaic.Lib.Layout

@[expose] public section

noncomputable section

namespace Cert.KernelIdeal.Hand

open Cert.KernelIdeal Cert.KernelIdeal.Gen
open Idealize.ShloMosaic Idealize.SL.Sem

variable {m : (ℓ : Loc nD τ sig) → Buf (Elt Ideal) ℓ}

/-- Device `c`'s block of an array cut by y along the first axis. -/
theorem part_block (X : (⟨3, ![4, 2048, 512]⟩ : Shape).Idx → EReal) (c : Dev nD) (i : Fin 2048) (l : Fin 512) :
    Layout.blockN ⟨3, ![1, 2048, 512]⟩ ⟨3, ![4, 2048, 512]⟩ (Layout.meshBlock [2, 4, 4] ![[1], [], []] c) X (by decide) (ix3 0 i l)
      = X (ix3 (yOf c) i l) := by
  rw [Layout.blockN_apply]
  refine congrArg X (funext fun a => Fin.ext ?_)
  rw [Layout.TilesN.idx_val]
  match a with
  | ⟨0, _⟩ => show (c.val / 4 % 4 * 1 + 0) * 1 + 0 = c.val / 4 % 4; omega
  | ⟨1, _⟩ => show 0 * 2048 + i.val = i.val; omega
  | ⟨2, _⟩ => show 0 * 512 + l.val = l.val; omega

/-- Device `c`'s block of the result: the 512 rows of its quarter. -/
theorem result_block (V : (⟨2, ![2048, 512]⟩ : Shape).Idx → EReal) (c : Dev nD) (r l : Fin 512) :
    Layout.blockN ⟨2, ![512, 512]⟩ ⟨2, ![2048, 512]⟩ (Layout.meshBlock [2, 4, 4] ![[1], []] c) V (by decide) (ix2 r l)
      = V (ix2 ⟨512 * (yOf c).val + r.val, by have := (yOf c).isLt; omega⟩ l) := by
  rw [Layout.blockN_apply]
  refine congrArg V (funext fun a => Fin.ext ?_)
  rw [Layout.TilesN.idx_val]
  match a with
  | ⟨0, _⟩ => show (c.val / 4 % 4 * 1 + 0) * 512 + r.val = 512 * (c.val / 4 % 4) + r.val; omega
  | ⟨1, _⟩ => show 0 * 512 + l.val = l.val; omega

/-- From memories that hold their parts of `X` and `g`, device `c`'s result is its block of the reference's. -/
theorem outV_eq_block (X : (⟨3, ![4, 2048, 512]⟩ : Shape).Idx → EReal) (g : S512.Idx → EReal)
    (hX : ∀ c : Dev nD, m (c.tc.loc main_arg0)
      = Layout.blockN ⟨3, ![1, 2048, 512]⟩ ⟨3, ![4, 2048, 512]⟩ (Layout.meshBlock [2, 4, 4] ![[1], [], []] c) X)
    (hg : ∀ c : Dev nD, m (c.tc.loc main_arg1) = g) (c : Dev nD) :
    outV m c = Layout.blockN ⟨2, ![512, 512]⟩ ⟨2, ![2048, 512]⟩ (Layout.meshBlock [2, 4, 4] ![[1], []] c)
      (Cert.ReferenceIdeal.Hand.refV X g) := by
  have h : Holds m X g := ⟨fun c i l => (congrFun (hX c) (ix3 0 i l)).trans (part_block X c i l), hg⟩
  funext j
  rw [eq_ix2 j]
  exact (outV_apply h c _ _).trans
    ((Cert.ReferenceIdeal.Hand.refV_apply X g _ _).symm.trans (result_block (Cert.ReferenceIdeal.Hand.refV X g) c _ _).symm)

end Cert.KernelIdeal.Hand

end
-- ==== Proof.lean ====
/- The claim: the kernel, as printed and over the extended reals, and the reference run to the end, change no argument and
   leave every semaphore at zero; and each device's result is its block of the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.SameText
public import proofs.«01_k».proof.Proof.Launch
public import proofs.«01_k».proof.Proof.Equation

@[expose] public section

noncomputable section

namespace Cert.Proof

open Idealize.ShloMosaic Idealize.SL.Sem

/-- The kernel as printed, on floats of bits: its text is the idealized kernel's, so it is the same run. -/
theorem frame_kernel : Cert.quiescent_Kernel (hKernel := Cert.Kernel.Gen.facts) := by
  intro m ρ _
  rw [← defs_same]
  exact (θ_run Cert.KernelIdeal.defs _ _).mono (fun _ h => ⟨fun c => (h.1 c).2, h.2⟩)
    (Cert.KernelIdeal.Hand.run_main (F := Bits) m ρ)

/-- The kernel over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Hand.run_main (F := Ideal) m ρ)

/-- The reference. -/
theorem frame_reference : Cert.quiescent_ReferenceIdeal (hReferenceIdeal := Cert.ReferenceIdeal.Gen.facts) := fun m ρ _ =>
  (θ_run Cert.ReferenceIdeal.defs _ _).mono (fun _ h => ⟨fun c => (h.1 c).2, h.2⟩) (Cert.ReferenceIdeal.Hand.run_main m ρ)

/-- Every device's result is its block of what the reference computes of the whole arrays. -/
theorem equal : Cert.algebraic_KernelIdeal_ReferenceIdeal (hKernelIdeal := Cert.KernelIdeal.Gen.facts)
    (hReferenceIdeal := Cert.ReferenceIdeal.Gen.facts) := fun m ρ m' ρ' _ hm =>
  ⟨_, (θ_run Cert.KernelIdeal.defs _ _).mono (fun _ h c => ⟨(h.1 c).1.trans
        (Cert.KernelIdeal.Hand.outV_eq_block _ _ (fun c => (hm c).1) (fun c => (hm c).2) c), (h.1 c).2⟩)
      (Cert.KernelIdeal.Hand.run_main (F := Ideal) m ρ),
    (θ_run Cert.ReferenceIdeal.defs _ _).mono (fun _ h => h.1 0) (Cert.ReferenceIdeal.Hand.run_main m' ρ')⟩

theorem claim : Cert.Claim := ⟨Cert.Kernel.Gen.facts, Cert.KernelIdeal.Gen.facts, Cert.ReferenceIdeal.Gen.facts,
  frame_kernel, frame_ideal, frame_reference, trivial, equal⟩

end Cert.Proof

end
